-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pairs_ok [hPre_pairs_ok : Cert.Pre_pairs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pairs_ok [hPre_pairs_ok : Cert.Pre_pairs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pairs_ok [hKernelIdeal : Cert.KernelIdeal.Facts] [hPre_pairs_ok : Cert.Pre_pairs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pairs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pairs_ok [hReferenceIdeal : Cert.ReferenceIdeal.Facts] [hPre_pairs_ok : Cert.Pre_pairs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pairs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pairs_ok [hKernelIdeal : Cert.KernelIdeal.Facts] [hReferenceIdeal : Cert.ReferenceIdeal.Facts] [hPre_pairs_ok : Cert.Pre_pairs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pairs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pairs_ok : Cert.Pre_pairs_ok.Facts),
    quiescent_Kernel (hKernel := hKernel)
    ∧ quiescent_KernelIdeal (hKernelIdeal := hKernelIdeal)
    ∧ quiescent_KernelIdeal_pre_pairs_ok (hKernelIdeal := hKernelIdeal) (hPre_pairs_ok := hPre_pairs_ok)
    ∧ quiescent_ReferenceIdeal (hReferenceIdeal := hReferenceIdeal)
    ∧ quiescent_ReferenceIdeal_pre_pairs_ok (hReferenceIdeal := hReferenceIdeal) (hPre_pairs_ok := hPre_pairs_ok)
    ∧ preserves_Kernel_KernelIdeal
    ∧ algebraic_KernelIdeal_ReferenceIdeal_pre_pairs_ok (hKernelIdeal := hKernelIdeal) (hReferenceIdeal := hReferenceIdeal) (hPre_pairs_ok := hPre_pairs_ok)
-- ==== Pre_pairs_ok.lean ====
abbrev S2048x256 : Shape := ⟨2, ![2048, 256]⟩
abbrev S2048 : Shape := ⟨1, ![2048]⟩
abbrev S2048x384 : Shape := ⟨2, ![2048, 384]⟩
abbrev S27x2048 : Shape := ⟨2, ![27, 2048]⟩
abbrev S27 : Shape := ⟨1, ![27]⟩
abbrev S1x2048 : Shape := ⟨2, ![1, 2048]⟩
abbrev S27x1 : Shape := ⟨2, ![27, 1]⟩
abbrev S_ : Shape := ⟨0, ![]⟩
abbrev S2048x1 : Shape := ⟨2, ![2048, 1]⟩
abbrev S2048x2048 : Shape := ⟨2, ![2048, 2048]⟩
abbrev S27x2048x1 : Shape := ⟨3, ![27, 2048, 1]⟩
abbrev S27x1x2048 : Shape := ⟨3, ![27, 1, 2048]⟩
abbrev S27x2048x2048 : Shape := ⟨3, ![27, 2048, 2048]⟩
abbrev S1x2048x2048 : Shape := ⟨3, ![1, 2048, 2048]⟩

class Facts : Prop where
  bcast_S2048_S1x2048_1 : S2048.BroadcastsInDim S1x2048 (![1] : Fin 1 → Fin S1x2048.rank)
  bcast_S27_S27x1_0 : S27.BroadcastsInDim S27x1 (![0] : Fin 1 → Fin S27x1.rank)
  bcast_S1x2048_S27x2048_0_1 : S1x2048.BroadcastsInDim S27x2048 (![0, 1] : Fin 2 → Fin S27x2048.rank)
  bcast_S27x1_S27x2048_0_1 : S27x1.BroadcastsInDim S27x2048 (![0, 1] : Fin 2 → Fin S27x2048.rank)
  bcast_S_S27x2048 : S_.BroadcastsInDim S27x2048 (![] : Fin 0 → Fin S27x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S27x2048_S27x2048x1_0_1 : S27x2048.BroadcastsInDim S27x2048x1 (![0, 1] : Fin 2 → Fin S27x2048x1.rank)
  bcast_S27x2048_S27x1x2048_0_2 : S27x2048.BroadcastsInDim S27x1x2048 (![0, 2] : Fin 2 → Fin S27x1x2048.rank)
  bcast_S27x2048x1_S27x2048x2048_0_1_2 : S27x2048x1.BroadcastsInDim S27x2048x2048 (![0, 1, 2] : Fin 3 → Fin S27x2048x2048.rank)
  bcast_S27x1x2048_S27x2048x2048_0_1_2 : S27x1x2048.BroadcastsInDim S27x2048x2048 (![0, 1, 2] : Fin 3 → Fin S27x2048x2048.rank)
  bcast_S2048x2048_S1x2048x2048_1_2 : S2048x2048.BroadcastsInDim S1x2048x2048 (![1, 2] : Fin 2 → Fin S1x2048x2048.rank)
  bcast_S1x2048x2048_S27x2048x2048_0_1_2 : S1x2048x2048.BroadcastsInDim S27x2048x2048 (![0, 1, 2] : Fin 3 → Fin S27x2048x2048.rank)
  reducesTo_S27x2048_S_d0_1 : S27x2048.ReducesTo [0, 1] S_
  h_S_ : 0 < S_.numel
  reducesTo_S27x2048x2048_S_d0_1_2 : S27x2048x2048.ReducesTo [0, 1, 2] S_

variable [Facts]

def fn_part2 {F : FTy → Type} [FloatOps F] (main_v5 : IVec S27x2048 1) (main_v16 : IVec S27x2048 1) (main_v21 : IVec S27x2048 1) (main_v36 : IVec S27x2048x2048 1) (main_v41 : IVec S27x2048x2048 1) : IVec S_ 1 :=
  let main_v42 : IVec S27x2048x2048 1 := andi main_v36 main_v41
  let main_v43 : IVec S27x2048 1 := noti main_v5
  let main_v44 : IVec S27x2048 1 := andi main_v16 main_v21
  let main_v45 : IVec S27x2048 1 := ori main_v43 main_v44
  let main_c_5 : IVec S_ 1 := constantI S_ 1 1#1
  let main_v46 : IVec S_ 1 := (fun x v => Host.reduce IntOp.andi x v reducesTo_S27x2048_S_d0_1 h_S_) main_v45 main_c_5
  let main_c_6 : IVec S_ 1 := constantI S_ 1 0#1
  let main_v47 : IVec S_ 1 := (fun x v => Host.reduce IntOp.ori x v reducesTo_S27x2048x2048_S_d0_1_2 h_S_) main_v42 main_c_6
  let main_v48 : IVec S_ 1 := noti main_v47
  let main_v49 : IVec S_ 1 := andi main_v46 main_v48
  main_v49

def fn_part1 {F : FTy → Type} [FloatOps F] (main_arg5 : IVec S27x2048 32) (main_v5 : IVec S27x2048 1) (main_v16 : IVec S27x2048 1) (main_v18 : IVec S27x2048 32) : IVec S_ 1 :=
  let main_c_4 : IVec S_ 32 := constantI S_ 32 9#32
  let main_v19 : IVec S27x2048 32 := broadcastInDim S27x2048 ![] bcast_S_S27x2048 main_c_4
  let main_v20 : IVec S27x2048 32 := Host.shrsi main_arg5 main_v19
  let main_v21 : IVec S27x2048 1 := cmpi .eq main_v18 main_v20
  let main_v22 : IVec S2048 32 := iotaInDim S2048 32 0
  let main_v23 : IVec S2048x1 32 := broadcastInDim S2048x1 ![0] bcast_S2048_S2048x1_0 main_v22
  let main_v24 : IVec S2048 32 := iotaInDim S2048 32 0
  let main_v25 : IVec S1x2048 32 := broadcastInDim S1x2048 ![1] bcast_S2048_S1x2048_1 main_v24
  let main_v26 : IVec S2048x2048 32 := broadcastInDim S2048x2048 ![0, 1] bcast_S2048x1_S2048x2048_0_1 main_v23
  let main_v27 : IVec S2048x2048 32 := broadcastInDim S2048x2048 ![0, 1] bcast_S1x2048_S2048x2048_0_1 main_v25
  let main_v28 : IVec S2048x2048 1 := cmpi .ne main_v26 main_v27
  let main_v29 : IVec S27x2048x1 1 := broadcastInDim S27x2048x1 ![0, 1] bcast_S27x2048_S27x2048x1_0_1 main_v5
  let main_v30 : IVec S27x1x2048 1 := broadcastInDim S27x1x2048 ![0, 2] bcast_S27x2048_S27x1x2048_0_2 main_v5
  let main_v31 : IVec S27x2048x2048 1 := broadcastInDim S27x2048x2048 ![0, 1, 2] bcast_S27x2048x1_S27x2048x2048_0_1_2 main_v29
  let main_v32 : IVec S27x2048x2048 1 := broadcastInDim S27x2048x2048 ![0, 1, 2] bcast_S27x1x2048_S27x2048x2048_0_1_2 main_v30
  let main_v33 : IVec S27x2048x2048 1 := andi main_v31 main_v32
  let main_v34 : IVec S1x2048x2048 1 := broadcastInDim S1x2048x2048 ![1, 2] bcast_S2048x2048_S1x2048x2048_1_2 main_v28
  let main_v35 : IVec S27x2048x2048 1 := broadcastInDim S27x2048x2048 ![0, 1, 2] bcast_S1x2048x2048_S27x2048x2048_0_1_2 main_v34
  let main_v36 : IVec S27x2048x2048 1 := andi main_v33 main_v35
  let main_v37 : IVec S27x2048x1 32 := broadcastInDim S27x2048x1 ![0, 1] bcast_S27x2048_S27x2048x1_0_1 main_arg5
  let main_v38 : IVec S27x1x2048 32 := broadcastInDim S27x1x2048 ![0, 2] bcast_S27x2048_S27x1x2048_0_2 main_arg5
  let main_v39 : IVec S27x2048x2048 32 := broadcastInDim S27x2048x2048 ![0, 1, 2] bcast_S27x2048x1_S27x2048x2048_0_1_2 main_v37
  let main_v40 : IVec S27x2048x2048 32 := broadcastInDim S27x2048x2048 ![0, 1, 2] bcast_S27x1x2048_S27x2048x2048_0_1_2 main_v38
  let main_v41 : IVec S27x2048x2048 1 := cmpi .eq main_v39 main_v40
  fn_part2 (F := F) main_v5 main_v16 main_v21 main_v36 main_v41

def fn {F : FTy → Type} [FloatOps F] (main_arg0 : IVec S2048x256 8) (main_arg1 : FVec F S2048 .f32) (main_arg2 : FVec F S2048x384 .fp8e5m2) (main_arg3 : FVec F S2048 .f32) (main_arg4 : IVec S27x2048 32) (main_arg5 : IVec S27x2048 32) (main_arg6 : IVec S27 32) : IVec S_ 1 :=
  let main_v0 : IVec S2048 32 := iotaInDim S2048 32 0
  let main_v1 : IVec S1x2048 32 := broadcastInDim S1x2048 ![1] bcast_S2048_S1x2048_1 main_v0
  let main_v2 : IVec S27x1 32 := broadcastInDim S27x1 ![0] bcast_S27_S27x1_0 main_arg6
  let main_v3 : IVec S27x2048 32 := broadcastInDim S27x2048 ![0, 1] bcast_S1x2048_S27x2048_0_1 main_v1
  let main_v4 : IVec S27x2048 32 := broadcastInDim S27x2048 ![0, 1] bcast_S27x1_S27x2048_0_1 main_v2
  let main_v5 : IVec S27x2048 1 := cmpi .slt main_v3 main_v4
  let main_c : IVec S_ 32 := constantI S_ 32 0#32
  let main_v6 : IVec S27x2048 32 := broadcastInDim S27x2048 ![] bcast_S_S27x2048 main_c
  let main_v7 : IVec S27x2048 1 := cmpi .sge main_arg4 main_v6
  let main_c_0 : IVec S_ 32 := constantI S_ 32 2048#32
  let main_v8 : IVec S27x2048 32 := broadcastInDim S27x2048 ![] bcast_S_S27x2048 main_c_0
  let main_v9 : IVec S27x2048 1 := cmpi .slt main_arg4 main_v8
  let main_v10 : IVec S27x2048 1 := andi main_v7 main_v9
  let main_c_1 : IVec S_ 32 := constantI S_ 32 0#32
  let main_v11 : IVec S27x2048 32 := broadcastInDim S27x2048 ![] bcast_S_S27x2048 main_c_1
  let main_v12 : IVec S27x2048 1 := cmpi .sge main_arg5 main_v11
  let main_v13 : IVec S27x2048 1 := andi main_v10 main_v12
  let main_c_2 : IVec S_ 32 := constantI S_ 32 2048#32
  let main_v14 : IVec S27x2048 32 := broadcastInDim S27x2048 ![] bcast_S_S27x2048 main_c_2
  let main_v15 : IVec S27x2048 1 := cmpi .slt main_arg5 main_v14
  let main_v16 : IVec S27x2048 1 := andi main_v13 main_v15
  let main_c_3 : IVec S_ 32 := constantI S_ 32 9#32
  let main_v17 : IVec S27x2048 32 := broadcastInDim S27x2048 ![] bcast_S_S27x2048 main_c_3
  let main_v18 : IVec S27x2048 32 := Host.shrsi main_arg4 main_v17
  fn_part1 (F := F) main_arg5 main_v5 main_v16 main_v18
-- ==== Kernel.lean ====
abbrev S2048x256 : Shape := ⟨2, ![2048, 256]⟩
abbrev S2048 : Shape := ⟨1, ![2048]⟩
abbrev S2048x384 : Shape := ⟨2, ![2048, 384]⟩
abbrev S27x2048 : Shape := ⟨2, ![27, 2048]⟩
abbrev S27 : Shape := ⟨1, ![27]⟩
abbrev S16x128 : Shape := ⟨2, ![16, 128]⟩
abbrev S27x1x2048 : Shape := ⟨3, ![27, 1, 2048]⟩
abbrev S27x256x384 : Shape := ⟨3, ![27, 256, 384]⟩
abbrev S1x1x2048 : Shape := ⟨3, ![1, 1, 2048]⟩
abbrev S1x256x384 : Shape := ⟨3, ![1, 256, 384]⟩
abbrev S64x2048 : Shape := ⟨2, ![64, 2048]⟩
abbrev S384x2048 : Shape := ⟨2, ![384, 2048]⟩
abbrev S128x256 : Shape := ⟨2, ![128, 256]⟩
abbrev S256x128 : Shape := ⟨2, ![256, 128]⟩
abbrev S64x128 : Shape := ⟨2, ![64, 128]⟩
abbrev S128x384 : Shape := ⟨2, ![128, 384]⟩
abbrev S384x128 : Shape := ⟨2, ![384, 128]⟩
abbrev S1x128 : Shape := ⟨2, ![1, 128]⟩
abbrev S1x2048 : Shape := ⟨2, ![1, 2048]⟩
abbrev S1 : Shape := ⟨1, ![1]⟩
abbrev S16x2048 : Shape := ⟨2, ![16, 2048]⟩
abbrev S128x2048 : Shape := ⟨2, ![128, 2048]⟩
abbrev S32x2048 : Shape := ⟨2, ![32, 2048]⟩
abbrev S32x128 : Shape := ⟨2, ![32, 128]⟩
abbrev S4x128 : Shape := ⟨2, ![4, 128]⟩
abbrev S8x128 : Shape := ⟨2, ![8, 128]⟩
abbrev S8x128x1 : Shape := ⟨3, ![8, 128, 1]⟩
abbrev S384x256 : Shape := ⟨2, ![384, 256]⟩
abbrev S1x256 : Shape := ⟨2, ![1, 256]⟩
abbrev S64x256 : Shape := ⟨2, ![64, 256]⟩
abbrev S256x256 : Shape := ⟨2, ![256, 256]⟩
abbrev S256x384 : Shape := ⟨2, ![256, 384]⟩

abbrev nBuf : Space → Nat
  | .hbm => 11
  | .vmem => 16
  | .smem => 1
  | _ => 0

abbrev bufTy : (tb : Table) → Fin (tcTables nBuf tb) → BufTy
  | .hbm, ⟨0, _⟩ => ⟨S2048x256, .i8⟩
  | .hbm, ⟨1, _⟩ => ⟨S2048, .f32⟩
  | .hbm, ⟨2, _⟩ => ⟨S2048x384, .fp8e5m2⟩
  | .hbm, ⟨3, _⟩ => ⟨S2048, .f32⟩
  | .hbm, ⟨4, _⟩ => ⟨S27x2048, .i32⟩
  | .hbm, ⟨5, _⟩ => ⟨S27x2048, .i32⟩
  | .hbm, ⟨6, _⟩ => ⟨S16x128, .f32⟩
  | .hbm, ⟨7, _⟩ => ⟨S16x128, .f32⟩
  | .hbm, ⟨8, _⟩ => ⟨S27x1x2048, .i32⟩
  | .hbm, ⟨9, _⟩ => ⟨S27x1x2048, .i32⟩
  | .hbm, ⟨10, _⟩ => ⟨S27x256x384, .f32⟩
  | .local _ .vmem, ⟨0, _⟩ => ⟨S2048x256, .i8⟩
  | .local _ .vmem, ⟨1, _⟩ => ⟨S16x128, .f32⟩
  | .local _ .vmem, ⟨2, _⟩ => ⟨S2048x384, .fp8e5m2⟩
  | .local _ .vmem, ⟨3, _⟩ => ⟨S16x128, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x256x384, .f32⟩
  | .local _ .vmem, ⟨9, _⟩ => ⟨S1x256x384, .f32⟩
  | .local _ .vmem, ⟨10, _⟩ => ⟨S64x2048, .i32⟩
  | .local _ .vmem, ⟨11, _⟩ => ⟨S384x2048, .bf16⟩
  | .local _ .vmem, ⟨12, _⟩ => ⟨S16x128, .i32⟩
  | .local _ .vmem, ⟨13, _⟩ => ⟨S16x128, .i32⟩
  | .local _ .vmem, ⟨14, _⟩ => ⟨S16x128, .f32⟩
  | .local _ .vmem, ⟨15, _⟩ => ⟨S64x2048, .i32⟩
  | .local _ .smem, ⟨0, _⟩ => ⟨S27, .i32⟩
  | _, _ => ⟨S2048x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![27], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v8 : Index := Scalar.indexCast arg0
  ![v8.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x384 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x256 : Shape := ⟨2, ![2048, 256]⟩
abbrev S2048 : Shape := ⟨1, ![2048]⟩
abbrev S2048x384 : Shape := ⟨2, ![2048, 384]⟩
abbrev S27x2048 : Shape := ⟨2, ![27, 2048]⟩
abbrev S27 : Shape := ⟨1, ![27]⟩
abbrev S2048x1 : Shape := ⟨2, ![2048, 1]⟩
abbrev S_ : Shape := ⟨0, ![]⟩
abbrev S27x2048x1 : Shape := ⟨3, ![27, 2048, 1]⟩
abbrev S27x2048x256 : Shape := ⟨3, ![27, 2048, 256]⟩
abbrev S27x2048x384 : Shape := ⟨3, ![27, 2048, 384]⟩
abbrev S1x2048x1 : Shape := ⟨3, ![1, 2048, 1]⟩
abbrev S27x1x1 : Shape := ⟨3, ![27, 1, 1]⟩
abbrev S27x256x384 : Shape := ⟨3, ![27, 256, 384]⟩

abbrev nBuf : Space → Nat
  | .hbm => 40
  | .vmem => 6
  | .smem => 0
  | _ => 0

abbrev bufTy : (tb : Table) → Fin (tcTables nBuf tb) → BufTy
  | .hbm, ⟨0, _⟩ => ⟨S2048x256, .i8⟩
  | .hbm, ⟨1, _⟩ => ⟨S2048, .f32⟩
  | .hbm, ⟨2, _⟩ => ⟨S2048x384, .fp8e5m2⟩
  | .hbm, ⟨3, _⟩ => ⟨S2048, .f32⟩
  | .hbm, ⟨4, _⟩ => ⟨S27x2048, .i32⟩
  | .hbm, ⟨5, _⟩ => ⟨S27x2048, .i32⟩
  | .hbm, ⟨6, _⟩ => ⟨S27, .i32⟩
  | .hbm, ⟨7, _⟩ => ⟨S2048x1, .f32⟩
  | .hbm, ⟨8, _⟩ => ⟨S2048x1, .f32⟩
  | .hbm, ⟨9, _⟩ => ⟨S2048x256, .bf16⟩
  | .hbm, ⟨10, _⟩ => ⟨S2048x384, .bf16⟩
  | .hbm, ⟨11, _⟩ => ⟨S_, .i32⟩
  | .hbm, ⟨12, _⟩ => ⟨S27x2048, .i32⟩
  | .hbm, ⟨13, _⟩ => ⟨S27x2048, .i1⟩
  | .hbm, ⟨14, _⟩ => ⟨S_, .i32⟩
  | .hbm, ⟨15, _⟩ => ⟨S27x2048, .i32⟩
  | .hbm, ⟨16, _⟩ => ⟨S27x2048, .i32⟩
  | .hbm, ⟨17, _⟩ => ⟨S27x2048, .i32⟩
  | .hbm, ⟨18, _⟩ => ⟨S27x2048x1, .i32⟩
  | .hbm, ⟨19, _⟩ => ⟨S27x2048x256, .bf16⟩
  | .hbm, ⟨20, _⟩ => ⟨S_, .i32⟩
  | .hbm, ⟨21, _⟩ => ⟨S27x2048, .i32⟩
  | .hbm, ⟨22, _⟩ => ⟨S27x2048, .i1⟩
  | .hbm, ⟨23, _⟩ => ⟨S_, .i32⟩
  | .hbm, ⟨24, _⟩ => ⟨S27x2048, .i32⟩
  | .hbm, ⟨25, _⟩ => ⟨S27x2048, .i32⟩
  | .hbm, ⟨26, _⟩ => ⟨S27x2048, .i32⟩
  | .hbm, ⟨27, _⟩ => ⟨S27x2048x1, .i32⟩
  | .hbm, ⟨28, _⟩ => ⟨S27x2048x384, .bf16⟩
  | .hbm, ⟨29, _⟩ => ⟨S2048, .i32⟩
  | .hbm, ⟨30, _⟩ => ⟨S1x2048x1, .i32⟩
  | .hbm, ⟨31, _⟩ => ⟨S27x1x1, .i32⟩
  | .hbm, ⟨32, _⟩ => ⟨S27x2048x1, .i32⟩
  | .hbm, ⟨33, _⟩ => ⟨S27x2048x1, .i32⟩
  | .hbm, ⟨34, _⟩ => ⟨S27x2048x1, .i1⟩
  | .hbm, ⟨35, _⟩ => ⟨S_, .bf16⟩
  | .hbm, ⟨36, _⟩ => ⟨S27x2048x384, .i1⟩
  | .hbm, ⟨37, _⟩ => ⟨S27x2048x384, .bf16⟩
  | .hbm, ⟨38, _⟩ => ⟨S27x2048x384, .bf16⟩
  | .hbm, ⟨39, _⟩ => ⟨S27x256x384, .f32⟩
  | .local _ .vmem, ⟨0, _⟩ => ⟨S2048x256, .i8⟩
  | .local _ .vmem, ⟨1, _⟩ => ⟨S2048x1, .f32⟩
  | .local _ .vmem, ⟨2, _⟩ => ⟨S2048x384, .fp8e5m2⟩
  | .local _ .vmem, ⟨3, _⟩ => ⟨S2048x1, .f32⟩
  | .local _ .vmem, ⟨4, _⟩ => ⟨S2048x256, .bf16⟩
  | .local _ .vmem, ⟨5, _⟩ => ⟨S2048x384, .bf16⟩
  | _, _ => ⟨S2048x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x384 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/-
  What one run of the kernel's body leaves in its buffers, written once for all blocks.

  At the first grid point the body transposes and packs the codes (16 stores) and transposes and scales the output
  gradients (16 stores). At every point it stores the lane table, the chunk table and the pair scales, 128 gathered
  8x128 word blocks and the output block. Here these stores are stated by formulas in the block number, so that the later
  modules argue about a general block and not about a numbered one; `bodyOut` is the output block they lead to.
-/
module

public import proofs.«01_k».proof.Proof.Gen.KernelIdeal.Frame.RunB
public import Idealize.ShloMosaic.Lib.WritesUnit

@[expose] public section

set_option maxRecDepth 65536

noncomputable section

namespace Cert.Dw

open Idealize.ShloMosaic Idealize.ShloMosaic.TcCoe Cert.KernelIdeal Cert.KernelIdeal.Gen

variable {F : FTy → Type} [FloatOps F]

/-- The lane table of one offset, from its input indices `x4`, its output indices `x5` and its pair count `n`: for an
output voxel that some pair hits, the position of the pair's input voxel in its row of 128. -/
def laneTab (x4 x5 : Vec F S1x1x2048 .i32) (n : Elt F .i32) : IVec S16x128 32 :=
  k0_pay52 (k0_pay45 x5) (iota .tc S128x2048 32 [0] iota_S128x2048_d0_w32) (k0_pay46 x4 x5 n) (k0_pay47 x5 n)
    (Scalar.ofBits .f32 0x00000000#32) (k0_pay48 x4)

/-- The chunk table of one offset: for an output voxel that some pair hits, the row of the pair's input voxel inside its
scene (0 to 3), and -1 elsewhere. -/
def chunkTab (x4 x5 : Vec F S1x1x2048 .i32) (n : Elt F .i32) : IVec S16x128 32 :=
  k0_pay53 (k0_pay45 x5) (iota .tc S128x2048 32 [0] iota_S128x2048_d0_w32) (k0_pay46 x4 x5 n) (k0_pay47 x5 n)
    (Scalar.ofBits .f32 0x00000000#32) (k0_pay48 x4)

/-- The scales of the input voxels, carried to the output voxels they are paired with (`sx` are the scales). -/
def scaleTab (sx : Vec F S16x128 .f32) (x4 x5 : Vec F S1x1x2048 .i32) (n : Elt F .i32) : FVec F S16x128 .f32 :=
  let v17 := k0_pay45 x5
  let v19 := iota .tc S128x2048 32 [0] iota_S128x2048_d0_w32
  let v36 := k0_pay46 x4 x5 n
  let v38 := k0_pay47 x5 n
  let cst := Scalar.ofBits (F := F) .f32 0x00000000#32
  let v40 := k0_pay48 x4
  let v53 := k0_pay50 v17 v19 v36 v38 cst v40
  let v56 := k0_pay51 v17 v19 v36 v38 cst v40
  k0_pay63 v53 v56 (k0_pay54 sx)
    (k0_pay60 v53 v56 (k0_pay54 sx) (k0_pay55 (F := F)) (k0_pay57 v17 v19 v36 v38 cst v40 sx) (k0_pay58 sx)
      (k0_pay59 v17 v19 v36 v38 cst v40))
    (k0_pay61 v53 (k0_pay54 sx)) k0_pay62

/-- One gathered block of 8 word rows and 128 voxels: `lrow`, `crow` are the block's rows of the lane and chunk tables,
`g0` to `g3` the four 128-voxel blocks of the scene. -/
def wordBlock (lrow crow : Vec F S1x128 .i32) (g0 g1 g2 g3 : Vec F S8x128 .i32) : IVec S8x128 32 :=
  shapeCast S8x128
    (select (k0_pay68 (F := F) crow) (dynamicGather 1 g3 (k0_pay69 (F := F) lrow))
      (select (k0_pay67 (F := F) crow) (dynamicGather 1 g2 (k0_pay69 (F := F) lrow))
        (select (k0_pay66 (F := F) crow) (dynamicGather 1 g1 (k0_pay69 (F := F) lrow))
          (dynamicGather 1 g0 (k0_pay69 (F := F) lrow))))) shapeCasts_S8x128_S8x128

/-- The corner of block `n`: the row blocks of 8 run fastest, the voxel blocks of 128 slower. -/
def blockOff (n : Fin 128) : Fin S64x2048.rank → ℕ := ![8 * (n.val % 8), 128 * (n.val / 8)]

/-- A block lies inside the word array. -/
theorem blockOff_inb (n : Fin 128) (a : Fin S64x2048.rank) : blockOff n a + S8x128.size a ≤ S64x2048.size a := by
  revert a n; decide

/-- The corner of block `q` of the scene that block `n` belongs to. -/
def sceneOff (n : Fin 128) (q : Fin 4) : Fin S64x2048.rank → ℕ := ![8 * (n.val % 8), 128 * (4 * (n.val / 32) + q.val)]

/-- A block of the scene lies inside the word array. -/
theorem sceneOff_inb (n : Fin 128) (q : Fin 4) (a : Fin S64x2048.rank) :
    sceneOff n q a + S8x128.size a ≤ S64x2048.size a := by
  revert a q n; decide

/-- The table row that block `n` reads lies inside the table. -/
theorem rowOff_inb (n : Fin 128) (a : Fin S16x128.rank) :
    (![n.val / 8, 0] : Fin S16x128.rank → ℕ) a + S1x128.size a ≤ S16x128.size a := by
  revert a n; decide

/-- The rectangle of the table row that block `n` reads. -/
abbrev rowRect (n : Fin 128) : Rect S16x128 := Rect.unit ![n.val / 8, 0] S1x128.size (rowOff_inb n)

/-- The rectangle of block `q` of block `n`'s scene. -/
abbrev sceneRect (n : Fin 128) (q : Fin 4) : Rect S64x2048 := Rect.unit (sceneOff n q) S8x128.size (sceneOff_inb n q)

/-- The 128 gathered blocks as the body stores them, the last one first; `lane n` and `chunk n` are the table rows block
`n` reads and `word n q` the blocks of its scene. -/
def wordPieces (lane chunk : Fin 128 → Vec F S1x128 .i32) (word : Fin 128 → Fin 4 → Vec F S8x128 .i32) :
    List (View.Piece (Elt F) S64x2048 .i32) :=
  View.tilePieces S8x128.size blockOff blockOff_inb
    (fun n => wordBlock (F := F) (lane n) (chunk n) (word n 0) (word n 1) (word n 2) (word n 3)) 128 le_rfl

/-- The sum of the first `j` of the 8 block products: block `b` multiplies its 256 columns of the output gradients
`dy b`, scaled by the scales `s` of its two table rows, with the codes held by its words `w b`. -/
def accUpTo (dy : Fin 8 → Vec F S384x256 .bf16) (s0 s1 : Fin 8 → Vec F S1x128 .f32) (w : Fin 8 → Vec F S64x256 .i32) :
    (j : ℕ) → j ≤ 8 → FVec F S384x256 .f32
  | 0, _ => broadcast S384x256 (Scalar.ofBits (F := F) .f32 0x00000000#32)
  | j + 1, hj =>
    addf (accUpTo dy s0 s1 w j (Nat.le_of_succ_le hj))
      (matmul dot_S384x256_S256x256_S384x256_1_1_0_0_n_n none (k0_pay401 (s0 ⟨j, hj⟩) (s1 ⟨j, hj⟩) (dy ⟨j, hj⟩))
        (bitcastToFloat .fp8e4m3 (bitcast S256x256 8 (w ⟨j, hj⟩) bitcasts_S64x256_w32_S256x256_w8))
        (constant S384x256 .f32 0x00000000#32))

/-- The output block: the sum of the 8 block products, transposed. -/
def outBlock (dy : Fin 8 → Vec F S384x256 .bf16) (s0 s1 : Fin 8 → Vec F S1x128 .f32) (w : Fin 8 → Vec F S64x256 .i32) :
    FVec F S1x256x384 .f32 :=
  shapeCast S1x256x384 (transpose S256x384 [1, 0] (accUpTo dy s0 s1 w 8 le_rfl) transposes_S384x256_p1_0_S256x384)
    shapeCasts_S256x384_S1x256x384

/-- Block `b`'s 256 columns lie inside the output gradients. -/
theorem dyOff_inb (b : Fin 8) (a : Fin S384x2048.rank) :
    (![0, 256 * b.val] : Fin S384x2048.rank → ℕ) a + S384x256.size a ≤ S384x2048.size a := by
  revert a b; decide

/-- Block `b`'s 256 columns lie inside the words. -/
theorem wordOff_inb (b : Fin 8) (a : Fin S64x2048.rank) :
    (![0, 256 * b.val] : Fin S64x2048.rank → ℕ) a + S64x256.size a ≤ S64x2048.size a := by
  revert a b; decide

/-- Row `2b` of the scales lies inside the table. -/
theorem scaleOff0_inb (b : Fin 8) (a : Fin S16x128.rank) :
    (![2 * b.val, 0] : Fin S16x128.rank → ℕ) a + S1x128.size a ≤ S16x128.size a := by
  revert a b; decide

/-- Row `2b + 1` of the scales lies inside the table. -/
theorem scaleOff1_inb (b : Fin 8) (a : Fin S16x128.rank) :
    (![2 * b.val + 1, 0] : Fin S16x128.rank → ℕ) a + S1x128.size a ≤ S16x128.size a := by
  revert a b; decide

/-- The rectangle of block `b`'s columns of the output gradients. -/
abbrev dyRect (b : Fin 8) : Rect S384x2048 := Rect.unit ![0, 256 * b.val] S384x256.size (dyOff_inb b)
/-- The rectangle of block `b`'s columns of the words. -/
abbrev wordRect (b : Fin 8) : Rect S64x2048 := Rect.unit ![0, 256 * b.val] S64x256.size (wordOff_inb b)
/-- The rectangle of block `b`'s first row of scales. -/
abbrev scaleRect0 (b : Fin 8) : Rect S16x128 := Rect.unit ![2 * b.val, 0] S1x128.size (scaleOff0_inb b)
/-- The rectangle of block `b`'s second row of scales. -/
abbrev scaleRect1 (b : Fin 8) : Rect S16x128 := Rect.unit ![2 * b.val + 1, 0] S1x128.size (scaleOff1_inb b)

/-- Row block `b`'s 128 columns lie inside the words. -/
theorem xtOff_inb (b : Fin 16) (a : Fin S64x2048.rank) :
    (![0, 128 * b.val] : Fin S64x2048.rank → ℕ) a + S64x128.size a ≤ S64x2048.size a := by
  revert a b; decide

/-- Row block `b`'s 128 columns lie inside the output gradients. -/
theorem dytOff_inb (b : Fin 16) (a : Fin S384x2048.rank) :
    (![0, 128 * b.val] : Fin S384x2048.rank → ℕ) a + S384x128.size a ≤ S384x2048.size a := by
  revert a b; decide

/-- Row block `b` lies inside the codes. -/
theorem xOff_inb (b : Fin 16) (a : Fin S2048x256.rank) :
    (![128 * b.val, 0] : Fin S2048x256.rank → ℕ) a + S128x256.size a ≤ S2048x256.size a := by
  revert a b; decide

/-- Row block `b` lies inside the gradient codes. -/
theorem dOff_inb (b : Fin 16) (a : Fin S2048x384.rank) :
    (![128 * b.val, 0] : Fin S2048x384.rank → ℕ) a + S128x384.size a ≤ S2048x384.size a := by
  revert a b; decide

/-- Row `b` lies inside a table of scales. -/
theorem sOff_inb (b : Fin 16) (a : Fin S16x128.rank) :
    (![b.val, 0] : Fin S16x128.rank → ℕ) a + S1x128.size a ≤ S16x128.size a := by
  revert a b; decide

/-- The rectangle of row block `b` of the codes. -/
abbrev xRect (b : Fin 16) : Rect S2048x256 := Rect.unit ![128 * b.val, 0] S128x256.size (xOff_inb b)
/-- The rectangle of row block `b` of the gradient codes. -/
abbrev dRect (b : Fin 16) : Rect S2048x384 := Rect.unit ![128 * b.val, 0] S128x384.size (dOff_inb b)
/-- The rectangle of row `b` of a table of scales. -/
abbrev sRect (b : Fin 16) : Rect S16x128 := Rect.unit ![b.val, 0] S1x128.size (sOff_inb b)

/-- The 16 stores of the transposed and packed codes, the last one first. -/
def xtPieces (x : Fin 16 → Vec F S128x256 .i8) : List (View.Piece (Elt F) S64x2048 .i32) :=
  View.tilePieces S64x128.size (fun b : Fin 16 => ![0, 128 * b.val]) xtOff_inb (fun b => k0_pay2 (F := F) (x b)) 16 le_rfl

/-- The 16 stores of the transposed and scaled output gradients, the last one first. -/
def dytPieces (d : Fin 16 → Vec F S128x384 .fp8e5m2) (s : Fin 16 → Vec F S1x128 .f32) :
    List (View.Piece (Elt F) S384x2048 .bf16) :=
  View.tilePieces S384x128.size (fun b : Fin 16 => ![0, 128 * b.val]) dytOff_inb (fun b => k0_pay3 (d b) (s b)) 16 le_rfl

/-- The packed codes of all voxels. -/
def xtAll (x : Vec F S2048x256 .i8) : Vec F S64x2048 .i32 := View.canon (xtPieces (F := F) fun b => View.ld x (xRect b))

/-- The scaled output gradients of all voxels. -/
def dytAll (d : Vec F S2048x384 .fp8e5m2) (s : Vec F S16x128 .f32) : Vec F S384x2048 .bf16 :=
  View.canon (dytPieces (fun b => View.ld d (dRect b)) fun b => View.ld s (sRect b))

/-- The gathered words of all voxels: `xt` are the packed codes. -/
def wordsAll (xt : Vec F S64x2048 .i32) (x4 x5 : Vec F S1x1x2048 .i32) (n : Elt F .i32) : Vec F S64x2048 .i32 :=
  View.canon (wordPieces (F := F) (fun b => View.ld (Val := Elt F) (e' := .i32) (laneTab x4 x5 n) (rowRect b))
    (fun b => View.ld (Val := Elt F) (e' := .i32) (chunkTab x4 x5 n) (rowRect b)) (fun b q => View.ld xt (sceneRect b q)))

/-- The output block of one offset, from the packed codes `xt` and the scaled output gradients `dyt`. -/
def bodyOut (xt : Vec F S64x2048 .i32) (dyt : Vec F S384x2048 .bf16) (sx : Vec F S16x128 .f32)
    (x4 x5 : Vec F S1x1x2048 .i32) (n : Elt F .i32) : Vec F S1x256x384 .f32 :=
  outBlock (fun b => View.ld dyt (dyRect b))
    (fun b => View.ld (Val := Elt F) (e' := .f32) (scaleTab sx x4 x5 n) (scaleRect0 b))
    (fun b => View.ld (Val := Elt F) (e' := .f32) (scaleTab sx x4 x5 n) (scaleRect1 b))
    (fun b => View.ld (wordsAll xt x4 x5 n) (wordRect b))

end Cert.Dw
-- ==== Proof.BodyValue.lean ====
/-
  What the generated run of the body stores is what Body.lean states: the output block is `bodyOut` of the two carried
  arrays, at the first grid point of the arrays that point makes itself.
-/
module

public import proofs.«01_k».proof.Proof.Body
public import proofs.«01_k».proof.Proof.Gen.KernelIdeal.Frame
public import Idealize.ShloMosaic.Lib.Pipeline.Value

@[expose] public section

set_option maxRecDepth 65536

noncomputable section

namespace Cert.Dw

open Idealize.ShloMosaic Idealize.ShloMosaic.TcCoe Cert.KernelIdeal Cert.KernelIdeal.Gen

variable {F : FTy → Type} [FloatOps F]

/-- The origin of a rank 2 array. -/
theorem zero2 : (![0, 0] : Fin 2 → ℕ) = fun _ => 0 := by decide
/-- The origin of a rank 3 array. -/
theorem zero3 : (![0, 0, 0] : Fin 3 → ℕ) = fun _ => 0 := by decide

section Run

variable (c : Dev nD)
  (i : grid0.Coords) (arg2 : Memref sig .tc .vmem S2048x256 .i8) (harg2 : arg2.IsWhole)
  (arg3 : Memref sig .tc .vmem S16x128 .f32) (harg3 : arg3.IsWhole)
  (arg4 : Memref sig .tc .vmem S2048x384 .fp8e5m2) (harg4 : arg4.IsWhole)
  (arg5 : Memref sig .tc .vmem S16x128 .f32) (harg5 : arg5.IsWhole)
  (arg6 : Memref sig .tc .vmem S1x1x2048 .i32) (harg6 : arg6.IsWhole)
  (arg7 : Memref sig .tc .vmem S1x1x2048 .i32) (harg7 : arg7.IsWhole)
  (arg8 : Memref sig .tc .vmem S1x256x384 .f32) (harg8 : arg8.IsWhole)
  (arg9 : Memref sig .tc .vmem S64x2048 .i32) (harg9 : arg9.IsWhole)
  (arg10 : Memref sig .tc .vmem S384x2048 .bf16) (harg10 : arg10.IsWhole)
  (arg11 : Memref sig .tc .vmem S16x128 .i32) (harg11 : arg11.IsWhole)
  (arg12 : Memref sig .tc .vmem S16x128 .i32) (harg12 : arg12.IsWhole)
  (arg13 : Memref sig .tc .vmem S16x128 .f32) (harg13 : arg13.IsWhole)
  (arg14 : Memref sig .tc .vmem S64x2048 .i32) (harg14 : arg14.IsWhole)
  (x0 : Vec F S2048x256 .i8) (x1 : Vec F S16x128 .f32) (x2 : Vec F S2048x384 .fp8e5m2) (x3 : Vec F S16x128 .f32)
  (x4 x5 : Vec F S1x1x2048 .i32) (xt0 : TbBuf0 (F := F) c tbM0_0)

/-- The rectangle that is all of an index array. -/
abbrev idxRect : Rect S1x1x2048 := Rect.unit ![0, 0, 0] S1x1x2048.size inb_S1x1x2048_S1x1x2048_0_0_0
/-- The rectangle that is all of a table. -/
abbrev tabRect : Rect S16x128 := Rect.unit ![0, 0] S16x128.size inb_S16x128_S16x128_0_0

/-- The pair count the body reads from the prefetched table. -/
abbrev countOf : Elt F .i32 :=
  View.readAt (Elt F) tbM0_0.view (Rect.unit (s := S27) (k0_off1 i) S1.size (k0_off1_inb i)).toLoadRect xt0 (Shape.Idx.first (numel1_S1.symm ▸ Nat.one_pos))

/-- The lane table, as the body reads its inputs. -/
theorem lane_read :
    laneTab (View.readAt (Elt F) arg6.view idxRect.toLoadRect (harg6.unread x4))
        (View.readAt (Elt F) arg7.view idxRect.toLoadRect (harg7.unread x5)) (countOf c i xt0) = laneTab x4 x5 (countOf c i xt0) := by
  simp only [View.readAt_eq_ld, harg6.read_unread, harg7.read_unread, View.ld_unit_zero (S := S1x1x2048) zero3]

/-- The chunk table, as the body reads its inputs. -/
theorem chunk_read :
    chunkTab (View.readAt (Elt F) arg6.view idxRect.toLoadRect (harg6.unread x4))
        (View.readAt (Elt F) arg7.view idxRect.toLoadRect (harg7.unread x5)) (countOf c i xt0) = chunkTab x4 x5 (countOf c i xt0) := by
  simp only [View.readAt_eq_ld, harg6.read_unread, harg7.read_unread, View.ld_unit_zero (S := S1x1x2048) zero3]

/-- The scale table, as the body reads its inputs. -/
theorem scale_read :
    scaleTab (View.readAt (Elt F) arg3.view tabRect.toLoadRect (harg3.unread x1))
        (View.readAt (Elt F) arg6.view idxRect.toLoadRect (harg6.unread x4))
        (View.readAt (Elt F) arg7.view idxRect.toLoadRect (harg7.unread x5)) (countOf c i xt0) = scaleTab x1 x4 x5 (countOf c i xt0) := by
  simp only [View.readAt_eq_ld, harg3.read_unread, harg6.read_unread, harg7.read_unread,
    View.ld_unit_zero (S := S1x1x2048) zero3, View.ld_unit_zero (S := S16x128) zero2]

/-- The lane table store at the first point. -/
theorem run_lane_A : kernelRun0_A.sl.HS2_1 c i arg6 harg6 arg7 harg7 x4 x5 xt0 = [⟨tabRect, laneTab x4 x5 (countOf c i xt0)⟩] := by
  rw [← lane_read c i arg6 harg6 arg7 harg7 x4 x5 xt0]; rfl

/-- The chunk table store at the first point. -/
theorem run_chunk_A : kernelRun0_A.sl.HS3_1 c i arg6 harg6 arg7 harg7 x4 x5 xt0 = [⟨tabRect, chunkTab x4 x5 (countOf c i xt0)⟩] := by
  rw [← chunk_read c i arg6 harg6 arg7 harg7 x4 x5 xt0]; rfl

/-- The scale table store at the first point. -/
theorem run_scale_A :
    kernelRun0_A.sl.HS4_1 c i arg3 harg3 arg6 harg6 arg7 harg7 x1 x4 x5 xt0 = [⟨tabRect, scaleTab x1 x4 x5 (countOf c i xt0)⟩] := by
  rw [← scale_read c i arg3 harg3 arg6 harg6 arg7 harg7 x1 x4 x5 xt0]; rfl

/-- The stores of the packed codes at the first point. -/
theorem run_xt_A : kernelRun0_A.sl.HS0_16 c arg2 harg2 x0 = xtPieces (F := F) fun b => View.ld x0 (xRect b) := by
  have h : ∀ b, View.ld x0 (xRect b) = View.readAt (Elt F) arg2.view (xRect b).toLoadRect (harg2.unread x0) := fun b => by
    rw [View.readAt_eq_ld, harg2.read_unread]
  simp only [h]; rfl

/-- The stores of the scaled output gradients at the first point. -/
theorem run_dyt_A :
    kernelRun0_A.sl.HS1_16 c arg4 harg4 arg5 harg5 x2 x3
      = dytPieces (fun b => View.ld x2 (dRect b)) fun b => View.ld x3 (sRect b) := by
  have h : ∀ b, View.ld x2 (dRect b) = View.readAt (Elt F) arg4.view (dRect b).toLoadRect (harg4.unread x2) := fun b => by
    rw [View.readAt_eq_ld, harg4.read_unread]
  have h' : ∀ b, View.ld x3 (sRect b) = View.readAt (Elt F) arg5.view (sRect b).toLoadRect (harg5.unread x3) := fun b => by
    rw [View.readAt_eq_ld, harg5.read_unread]
  simp only [h, h']; rfl

/-- The 128 stores of gathered words at the first point, in the formula's order. -/
theorem run_words_A :
    kernelRun0_A.sl.HS5_128 c i arg2 harg2 arg6 harg6 arg7 harg7 arg9 arg11 arg12 x0 x4 x5 xt0
      = wordPieces (F := F)
          (fun n => arg11.view.readCov (kernelRun0_A.sl.HS2_1 c i arg6 harg6 arg7 harg7 x4 x5 xt0) (rowRect n).toLoadRect)
          (fun n => arg12.view.readCov (kernelRun0_A.sl.HS3_1 c i arg6 harg6 arg7 harg7 x4 x5 xt0) (rowRect n).toLoadRect)
          (fun n q => arg9.view.readCov (kernelRun0_A.sl.HS0_16 c arg2 harg2 x0) (sceneRect n q).toLoadRect) := by
  rfl

/-- The gathered words at the first point. -/
theorem run_words_canon_A :
    View.canon (kernelRun0_A.sl.HS5_128 c i arg2 harg2 arg6 harg6 arg7 harg7 arg9 arg11 arg12 x0 x4 x5 xt0) = wordsAll (xtAll x0) x4 x5 (countOf c i xt0) := by
  rw [run_words_A, run_lane_A, run_chunk_A]
  simp only [View.readCov_eq_canon', View.readAt_eq_ld, run_xt_A, xtAll, View.canon_unit_zero (S := S16x128) zero2]
  rfl

/-- The output store at the first point. -/
theorem run_out_A (hc : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14
        hc x0 x1 x2 x3 x4 x5 xt0).1
      = [⟨Rect.unit ![0, 0, 0] S1x256x384.size inb_S1x256x384_S1x256x384_0_0_0,
          outBlock (fun b => arg10.view.readCov (kernelRun0_A.sl.HS1_16 c arg4 harg4 arg5 harg5 x2 x3) (dyRect b).toLoadRect)
            (fun b => arg13.view.readCov (kernelRun0_A.sl.HS4_1 c i arg3 harg3 arg6 harg6 arg7 harg7 x1 x4 x5 xt0) (scaleRect0 b).toLoadRect)
            (fun b => arg13.view.readCov (kernelRun0_A.sl.HS4_1 c i arg3 harg3 arg6 harg6 arg7 harg7 x1 x4 x5 xt0) (scaleRect1 b).toLoadRect)
            (fun b => arg14.view.readCov (kernelRun0_A.sl.HS5_128 c i arg2 harg2 arg6 harg6 arg7 harg7 arg9 arg11 arg12 x0 x4 x5 xt0) (wordRect b).toLoadRect)⟩] := by
  rfl

/-- The output block at the first point is `bodyOut`. -/
theorem out_A (hc : cond0_0 i) :
    out0_A_6 c i arg2 harg2 arg3 harg3 arg4 harg4 arg5 harg5 arg6 harg6 arg7 harg7 arg8 harg8 arg9 harg9 arg10 harg10 arg11 harg11 arg12 harg12 arg13 harg13 arg14 harg14
        hc x0 x1 x2 x3 x4 x5 xt0
      = bodyOut (xtAll x0) (dytAll x2 x3) x1 x4 x5 (countOf c i xt0) := by
  unfold out0_A_6
  rw [View.read_writes_junk_eq_canon, run_out_A, View.canon_unit_zero (S := S1x256x384) zero3, run_scale_A]
  simp only [View.readCov_eq_canon', run_words_canon_A,
    View.canon_unit_zero (S := S16x128) zero2, View.readAt_eq_ld, run_dyt_A, dytAll]
  rfl

/-- The packed codes the first point leaves. -/
theorem sout_A_0 (hc : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14
        hc x0 x1 x2 x3 x4 x5 xt0 = xtAll x0 := by
  unfold sout0_A_0
  rw [View.read_writes_junk_eq_canon]
  exact congrArg View.canon (run_xt_A c arg2 harg2 x0)

/-- The scaled output gradients the first point leaves. -/
theorem sout_A_1 (hc : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14
        hc x0 x1 x2 x3 x4 x5 xt0 = dytAll x2 x3 := by
  unfold sout0_A_1
  rw [View.read_writes_junk_eq_canon]
  exact congrArg View.canon (run_dyt_A c arg4 harg4 arg5 harg5 x2 x3)

/-- The lane table store at later points. -/
theorem run_lane_B : kernelRun0_B.sl.HS2_1 c i arg6 harg6 arg7 harg7 x4 x5 xt0 = [⟨tabRect, laneTab x4 x5 (countOf c i xt0)⟩] := by
  rw [← lane_read c i arg6 harg6 arg7 harg7 x4 x5 xt0]; rfl

/-- The chunk table store at later points. -/
theorem run_chunk_B : kernelRun0_B.sl.HS3_1 c i arg6 harg6 arg7 harg7 x4 x5 xt0 = [⟨tabRect, chunkTab x4 x5 (countOf c i xt0)⟩] := by
  rw [← chunk_read c i arg6 harg6 arg7 harg7 x4 x5 xt0]; rfl

/-- The scale table store at later points. -/
theorem run_scale_B :
    kernelRun0_B.sl.HS4_1 c i arg3 harg3 arg6 harg6 arg7 harg7 x1 x4 x5 xt0 = [⟨tabRect, scaleTab x1 x4 x5 (countOf c i xt0)⟩] := by
  rw [← scale_read c i arg3 harg3 arg6 harg6 arg7 harg7 x1 x4 x5 xt0]; rfl

/-- The 128 stores of gathered words at later points, in the formula's order. -/
theorem run_words_B (xs0 : Vec F S64x2048 .i32) :
    kernelRun0_B.sl.HS5_128 c i arg6 harg6 arg7 harg7 arg9 harg9 arg11 arg12 x4 x5 xt0 xs0
      = wordPieces (F := F)
          (fun n => arg11.view.readCov (kernelRun0_B.sl.HS2_1 c i arg6 harg6 arg7 harg7 x4 x5 xt0) (rowRect n).toLoadRect)
          (fun n => arg12.view.readCov (kernelRun0_B.sl.HS3_1 c i arg6 harg6 arg7 harg7 x4 x5 xt0) (rowRect n).toLoadRect)
          (fun n q => View.readAt (Elt F) arg9.view (sceneRect n q).toLoadRect (harg9.unread xs0)) := by
  rfl

/-- The gathered words at later points. -/
theorem run_words_canon_B (xs0 : Vec F S64x2048 .i32) :
    View.canon (kernelRun0_B.sl.HS5_128 c i arg6 harg6 arg7 harg7 arg9 harg9 arg11 arg12 x4 x5 xt0 xs0) = wordsAll xs0 x4 x5 (countOf c i xt0) := by
  rw [run_words_B, run_lane_B, run_chunk_B]
  simp only [View.readCov_eq_canon', View.readAt_eq_ld, harg9.read_unread, View.canon_unit_zero (S := S16x128) zero2]
  rfl

/-- The output store at later points. -/
theorem run_out_B (hc : ¬cond0_0 i)
    (xs0 : Vec F S64x2048 .i32) (xs1 : Vec F S384x2048 .bf16) :
    (kernelRun0_B c i arg2 harg2 arg3 harg3 arg4 harg4 arg5 harg5 arg6 harg6 arg7 harg7 arg8 harg8 arg9 harg9 arg10 harg10 arg11 harg11 arg12 harg12 arg13 harg13 arg14 harg14
        hc x0 x1 x2 x3 x4 x5 xt0 xs0 xs1).1
      = [⟨Rect.unit ![0, 0, 0] S1x256x384.size inb_S1x256x384_S1x256x384_0_0_0,
          outBlock (fun b => View.readAt (Elt F) arg10.view (dyRect b).toLoadRect (harg10.unread xs1))
            (fun b => arg13.view.readCov (kernelRun0_B.sl.HS4_1 c i arg3 harg3 arg6 harg6 arg7 harg7 x1 x4 x5 xt0) (scaleRect0 b).toLoadRect)
            (fun b => arg13.view.readCov (kernelRun0_B.sl.HS4_1 c i arg3 harg3 arg6 harg6 arg7 harg7 x1 x4 x5 xt0) (scaleRect1 b).toLoadRect)
            (fun b => arg14.view.readCov (kernelRun0_B.sl.HS5_128 c i arg6 harg6 arg7 harg7 arg9 harg9 arg11 arg12 x4 x5 xt0 xs0) (wordRect b).toLoadRect)⟩] := by
  rfl

/-- The output block at later points is `bodyOut`. -/
theorem out_B (hc : ¬cond0_0 i)
    (xs0 : Vec F S64x2048 .i32) (xs1 : Vec F S384x2048 .bf16) :
    out0_B_6 c i arg2 harg2 arg3 harg3 arg4 harg4 arg5 harg5 arg6 harg6 arg7 harg7 arg8 harg8 arg9 harg9 arg10 harg10 arg11 harg11 arg12 harg12 arg13 harg13 arg14 harg14
        hc x0 x1 x2 x3 x4 x5 xt0 xs0 xs1
      = bodyOut xs0 xs1 x1 x4 x5 (countOf c i xt0) := by
  unfold out0_B_6
  rw [View.read_writes_junk_eq_canon, run_out_B, View.canon_unit_zero (S := S1x256x384) zero3, run_scale_B]
  simp only [View.readCov_eq_canon', run_words_canon_B,
    View.canon_unit_zero (S := S16x128) zero2, View.readAt_eq_ld, harg10.read_unread]
  rfl

end Run

end Cert.Dw
-- ==== Proof.Pairs.lean ====
/-
  The precondition, read as facts about one offset's list of pairs.
-/
module

public import proofs.«01_k».proof.Pre_pairs_ok
public import Idealize.ShloMosaic.Lib.Pointwise
public import Idealize.ShloMosaic.Lib.ReduceAll
public import Idealize.ShloMosaic.Lib.PackedFields
public import Idealize.ShloMosaic.Lib.WordCmp

@[expose] public section

set_option maxRecDepth 16384

noncomputable section

namespace Cert.Dw

open Idealize.ShloMosaic

/-- Pair `p` counts when its position is below the pair count. -/
def Valid (n : BitVec 32) (p : Fin 2048) : Prop := (BitVec.ofNat 32 p.val).toInt < n.toInt

instance (n : BitVec 32) (p : Fin 2048) : Decidable (Valid n p) := by unfold Valid; infer_instance

/-- The pairs of one offset that count: input voxel `a p` and output voxel `b p` are rows of one scene of 512 voxels, and
no output voxel comes twice. -/
structure PairsOk (a b : Fin 2048 → BitVec 32) (n : BitVec 32) : Prop where
  /-- The input voxel is a row. -/
  inp_lt : ∀ p, Valid n p → (a p).toNat < 2048
  /-- The output voxel is a row. -/
  out_lt : ∀ p, Valid n p → (b p).toNat < 2048
  /-- Both belong to one scene. -/
  scene : ∀ p, Valid n p → (a p).toNat / 512 = (b p).toNat / 512
  /-- No output voxel comes twice. -/
  inj : ∀ p q, Valid n p → Valid n q → b p = b q → p = q

/-- A left fold by `or` over `i1` words that came out 0 met only 0s. -/
theorem foldl_ori_eq_zero {ι : Type} (f : ι → BitVec 1) :
    ∀ (l : List ι) (init : BitVec 1), l.foldl (fun r n => IntOp.ori r (f n)) init = 0#1 → init = 0#1 ∧ ∀ n ∈ l, f n = 0#1
  | [], init, h => ⟨h, fun _ hn => nomatch hn⟩
  | a :: l, init, h => by
    obtain ⟨h1, h2⟩ := foldl_ori_eq_zero f l _ h
    have h3 : init = 0#1 ∧ f a = 0#1 := by
      exact (by decide : ∀ x y : BitVec 1, IntOp.ori x y = 0#1 → x = 0#1 ∧ y = 0#1) _ _ h1
    exact ⟨h3.1, fun n hn => by rcases List.mem_cons.1 hn with rfl | hn; exacts [h3.2, h2 n hn]⟩

/-- A reduction by `or` into one element that is 0 had a 0 at every operand index. -/
theorem reduce_ori_all {s t u : Shape} {axes : List (Fin s.rank)} [Subsingleton t.Idx] (x : s.Idx → BitVec 1)
    (init : u.Idx → BitVec 1) (h : s.ReducesTo axes t) (hu : 0 < u.numel) (j : t.Idx)
    (e : Host.reduce IntOp.ori x init h hu j = 0#1) (i : s.Idx) : x i = 0#1 := by
  rw [Host.reduce_eq_foldl] at e
  refine (foldl_ori_eq_zero x _ _ e).2 i ?_
  rw [List.mem_filter]
  exact ⟨List.mem_map.2 ⟨s.rowMajor i, List.mem_finRange _, Equiv.symm_apply_apply _ _⟩, by simp [Subsingleton.elim (h.drop i) j]⟩

/-- A word that is not negative and below 2048 as an integer is below 2048 as a natural number. -/
theorem toNat_lt_of_range (w : BitVec 32) (h0 : (0#32).toInt ≤ w.toInt) (h1 : w.toInt < (2048#32).toInt) : w.toNat < 2048 := by
  have := BitVec.toInt_eq_toNat_cond w
  have e0 : (0#32).toInt = 0 := by decide
  have e1 : (2048#32).toInt = 2048 := by decide
  rw [e0] at h0; rw [e1] at h1
  have := w.isLt
  split at * <;> omega

/-- An arithmetic right shift of a word below 2048 divides. -/
theorem shrsi_toNat (u : ArithUnit) (w : BitVec 32) (s : ℕ) (hs : s < 31) (hw : w.toNat < 2 ^ 31) :
    (IntOp.shrsi u w (BitVec.ofNat 32 s)).toNat = w.toNat / 2 ^ s := by
  have hP : 0 < 2 ^ s := Nat.two_pow_pos s
  have hk : w.toNat / 2 ^ s < 2 ^ (31 - s) := by
    rw [Nat.div_lt_iff_lt_mul hP, ← Nat.pow_add, Nat.sub_add_cancel (by omega)]; exact hw
  have h := (PackedFields.shrsi_eq_iff (u := u) w s (w.toNat / 2 ^ s) (by omega) hk).2
    ⟨Nat.mul_div_le _ _, Nat.lt_mul_div_succ _ hP⟩
  rw [h, BitVec.toNat_ofNat, Nat.mod_eq_of_lt]
  calc w.toNat / 2 ^ s ≤ w.toNat := Nat.div_le_self _ _
    _ < 2 ^ 32 := w.isLt

section
open Cert.Pre_pairs_ok
variable [Cert.Pre_pairs_ok.Facts]

/-- The precondition gives each offset's facts. -/
theorem pairsOk_of_pre (x : IVec S2048x256 8) (sx : FVec Ideal S2048 .f32) (d : FVec Ideal S2048x384 .fp8e5m2)
    (sd : FVec Ideal S2048 .f32) (a b : IVec S27x2048 32) (n : IVec S27 32)
    (h : fn (F := Ideal) x sx d sd a b n = fun _ => 1#1) (k : Fin 27) :
    PairsOk (fun p => a (ix2 k p)) (fun p => b (ix2 k p)) (n (ix1 k)) := by
  have h0 := congrFun h (fun e => e.elim0)
  unfold fn fn_part1 fn_part2 at h0
  dsimp only at h0
  haveI : Subsingleton S_.Idx := ⟨fun i j => funext fun e => e.elim0⟩
  obtain ⟨hA, hB⟩ := IntOp.andi_eq_one.1 h0
  have hA' := fun p : Fin 2048 => Host.reduce_andi_all _ _ _ _ _ hA (ix2 k p)
  have hB' := fun p q : Fin 2048 => reduce_ori_all _ _ _ _ _
    (by revert hB; exact (by decide : ∀ y : BitVec 1, ~~~ y = 1#1 → y = 0#1) _) (ix3 k p q)
  clear h h0 hA hB
  pointwise at hA' hB'
  have key : ∀ p, Valid (n (ix1 k)) p → (a (ix2 k p)).toNat < 2048 ∧ (b (ix2 k p)).toNat < 2048
      ∧ IntOp.shrsi .host (a (ix2 k p)) 9#32 = IntOp.shrsi .host (b (ix2 k p)) 9#32 := fun p hp => by
    have h1 := (by decide : ∀ u v : BitVec 1, IntOp.ori (~~~ u) v = 1#1 → u = 1#1 → v = 1#1) _ _ (hA' p) (IntOp.cmpi_slt.2 hp)
    obtain ⟨h2, h3⟩ := IntOp.andi_eq_one.1 h1
    obtain ⟨h4, h5⟩ := IntOp.andi_eq_one.1 h2
    obtain ⟨h6, h7⟩ := IntOp.andi_eq_one.1 h4
    obtain ⟨h8, h9⟩ := IntOp.andi_eq_one.1 h6
    exact ⟨toNat_lt_of_range _ (IntOp.cmpi_sge.1 h8) (IntOp.cmpi_slt.1 h9),
      toNat_lt_of_range _ (IntOp.cmpi_sge.1 h7) (IntOp.cmpi_slt.1 h5), IntOp.cmpi_eq.1 h3⟩
  refine ⟨fun p hp => (key p hp).1, fun p hp => (key p hp).2.1, fun p hp => ?_, fun p q hp hq he => ?_⟩
  · obtain ⟨h1, h2, h3⟩ := key p hp
    have h4 := congrArg BitVec.toNat h3
    rw [shrsi_toNat .host _ 9 (by omega) (by omega), shrsi_toNat .host _ 9 (by omega) (by omega)] at h4
    exact h4
  · by_contra hne
    have h1 := hB' p q
    have hne' : BitVec.ofNat 32 p.val ≠ BitVec.ofNat 32 q.val := fun e => hne <| Fin.ext <| by
      have := congrArg BitVec.toNat e
      rw [BitVec.toNat_ofNat, BitVec.toNat_ofNat, Nat.mod_eq_of_lt (by omega), Nat.mod_eq_of_lt (by omega)] at this
      exact this
    rw [IntOp.cmpi_slt.2 hp, IntOp.cmpi_slt.2 hq, IntOp.cmpi_ne.2 hne', IntOp.cmpi_eq.2 he] at h1
    exact absurd h1 (by decide)
end

end Cert.Dw
-- ==== Proof.Table.lean ====
/-
  The lane table and the chunk table: at an output voxel that a pair hits they hold the position of the pair's input
  voxel, and at the other voxels the chunk table holds -1.
-/
module

public import proofs.«01_k».proof.Proof.Body
public import proofs.«01_k».proof.Proof.Pairs

@[expose] public section

set_option maxRecDepth 16384

noncomputable section

namespace Cert.Dw

open Idealize.ShloMosaic Idealize.ShloMosaic.TcCoe Cert.KernelIdeal Cert.KernelIdeal.Gen

/-- Pair `p` counts and goes to output voxel `v`. -/
def Hits (b : Fin 2048 → BitVec 32) (n : BitVec 32) (p : Fin 2048) (v : ℕ) : Prop := Valid n p ∧ (b p).toNat = v

/-- The one-hot test of an entry, in the words the body compares: position and row of the output voxel are those of the
entry exactly when the pair hits it. -/
theorem hit_iff {a b : Fin 2048 → BitVec 32} {n : BitVec 32} (H : PairsOk a b n) (p : Fin 2048) (h : Fin 16) (l : Fin 128) :
    (IntOp.cmpi .eq (BitVec.ofNat 32 l.val) (IntOp.andi (b p) 127#32) = 1#1
      ∧ IntOp.cmpi .eq (BitVec.ofNat 32 h.val) (Scalar.select (IntOp.cmpi .slt (BitVec.ofNat 32 p.val) n)
          (IntOp.shrsi ArithUnit.vector (b p) 7#32) 16#32) = 1#1) ↔ Hits b n p (128 * h.val + l.val) := by
  rw [IntOp.cmpi_eq, IntOp.cmpi_eq]
  have hl := l.isLt
  have hh := h.isLt
  by_cases hv : Valid n p
  · have hb := H.out_lt p hv
    rw [IntOp.cmpi_slt.2 hv, ValueIdx.select_one]
    have e1 : (BitVec.ofNat 32 l.val = IntOp.andi (b p) 127#32) ↔ l.val = (b p).toNat % 128 := by
      rw [← BitVec.toNat_inj, BitVec.toNat_ofNat, Nat.mod_eq_of_lt (by omega)]
      show _ = ((b p) &&& 127#32).toNat ↔ _
      rw [BitVec.toNat_and, show (127#32).toNat = 2 ^ 7 - 1 from rfl, Nat.and_two_pow_sub_one_eq_mod]
    have e2 : (BitVec.ofNat 32 h.val = IntOp.shrsi ArithUnit.vector (b p) 7#32) ↔ h.val = (b p).toNat / 128 := by
      rw [← BitVec.toNat_inj, shrsi_toNat _ _ 7 (by omega) (by omega), BitVec.toNat_ofNat, Nat.mod_eq_of_lt (by omega)]
      exact Iff.rfl
    rw [e1, e2]
    constructor
    · rintro ⟨h1, h2⟩; exact ⟨hv, by omega⟩
    · rintro ⟨_, h2⟩; omega
  · rw [show IntOp.cmpi .slt (BitVec.ofNat 32 p.val) n = 0#1 from by
      rcases (by decide : ∀ y : BitVec 1, y = 0#1 ∨ y = 1#1) (IntOp.cmpi .slt (BitVec.ofNat 32 p.val) n) with e | e
      · exact e
      · exact absurd (IntOp.cmpi_slt.1 e) hv, ValueIdx.select_zero]
    refine ⟨fun ⟨_, h2⟩ => ?_, fun h2 => absurd h2.1 hv⟩
    exact absurd (congrArg BitVec.toNat h2) (by
      rw [BitVec.toNat_ofNat, Nat.mod_eq_of_lt (by omega)]; show ¬ h.val = 16; omega)

/-- A selection on a bit that is not 1 is its second operand. -/
theorem select_of_ne {α : Type} {c : BitVec 1} (hc : c ≠ 1#1) (x y : α) : Scalar.select c x y = y := if_neg hc

/-- One term of the one-hot product. -/
abbrev oneHotTerm (b : Fin 2048 → BitVec 32) (n : BitVec 32) (h : Fin 16) (l : Fin 128) (f : Fin 2048 → EReal)
    (p : Fin 2048) : EReal :=
  Scalar.select (IntOp.cmpi .eq (BitVec.ofNat 32 l.val) (IntOp.andi (b p) 127#32))
    (Scalar.select (IntOp.cmpi .eq (BitVec.ofNat 32 h.val) (Scalar.select (IntOp.cmpi .slt (BitVec.ofNat 32 p.val) n)
      (IntOp.shrsi ArithUnit.vector (b p) 7#32) 16#32)) (f p) 0) 0

/-- A term whose pair does not hit the entry is 0. -/
theorem oneHotTerm_miss {a b : Fin 2048 → BitVec 32} {n : BitVec 32} (H : PairsOk a b n) (h : Fin 16) (l : Fin 128)
    (f : Fin 2048 → EReal) (p : Fin 2048) (hp : ¬ Hits b n p (128 * h.val + l.val)) : oneHotTerm b n h l f p = 0 := by
  rw [← hit_iff H p h l] at hp
  unfold oneHotTerm
  by_cases h1 : IntOp.cmpi .eq (BitVec.ofNat 32 l.val) (IntOp.andi (b p) 127#32) = 1#1
  · rw [h1, ValueIdx.select_one, select_of_ne fun h2 => hp ⟨h1, h2⟩]
  · rw [select_of_ne h1]

/-- A term whose pair hits the entry is the pair's value. -/
theorem oneHotTerm_hit {a b : Fin 2048 → BitVec 32} {n : BitVec 32} (H : PairsOk a b n) (h : Fin 16) (l : Fin 128)
    (f : Fin 2048 → EReal) (p : Fin 2048) (hp : Hits b n p (128 * h.val + l.val)) : oneHotTerm b n h l f p = f p := by
  obtain ⟨h1, h2⟩ := (hit_iff H p h l).2 hp
  unfold oneHotTerm
  rw [h1, h2, ValueIdx.select_one, ValueIdx.select_one]

/-- The one-hot product at an entry that pair `p` hits is the pair's value. -/
theorem oneHot_hit {a b : Fin 2048 → BitVec 32} {n : BitVec 32} (H : PairsOk a b n) (h : Fin 16) (l : Fin 128)
    (f : Fin 2048 → EReal) (p : Fin 2048) (hp : Hits b n p (128 * h.val + l.val)) :
    ∑ q, oneHotTerm b n h l f q = f p := by
  rw [Finset.sum_eq_single p, oneHotTerm_hit H h l f p hp]
  · intro q _ hq
    refine oneHotTerm_miss H h l f q fun hh => hq ?_
    exact H.inj q p hh.1 hp.1 (BitVec.eq_of_toNat_eq (hh.2.trans hp.2.symm))
  · exact fun hh => absurd (Finset.mem_univ p) hh

/-- The one-hot product at an entry that no pair hits is 0. -/
theorem oneHot_miss {a b : Fin 2048 → BitVec 32} {n : BitVec 32} (H : PairsOk a b n) (h : Fin 16) (l : Fin 128)
    (f : Fin 2048 → EReal) (hp : ∀ p, ¬ Hits b n p (128 * h.val + l.val)) : ∑ q, oneHotTerm b n h l f q = 0 :=
  Finset.sum_eq_zero fun q _ => oneHotTerm_miss H h l f q (hp q)

/-- A small natural number comes back from the reals as itself. -/
theorem fptosi_nat (k : ℕ) (hk : k < 1000) : (FloatOps.fptosi (F := Ideal) (φ := .f32) 32 (((k : ℝ) : EReal))) = BitVec.ofNat 32 k := by
  show Ideal.fptosi 32 ((k : ℝ) : EReal) = _
  rw [Ideal.fptosi, Ideal.toIntClamped_coe, if_pos (Nat.cast_nonneg k), Int.floor_natCast, max_eq_right, min_eq_right]
  · exact BitVec.ofInt_natCast 32 k
  all_goals norm_num
  omega

/-- A small word as a real number. -/
theorem sitofp_small (w : BitVec 32) (hw : w.toNat < 1000) :
    (FloatOps.sitofp (F := Ideal) .f32 w : EReal) = ((w.toNat : ℝ) : EReal) := by
  show (((w.toInt : ℝ)) : EReal) = _
  rw [BitVec.toInt_eq_toNat_of_lt (by omega)]; rfl

section
variable (x4 x5 : Vec Ideal S1x1x2048 .i32) (n : BitVec 32)

/-- The lane table at an entry, as a one-hot product. -/
theorem laneTab_eq (h : Fin 16) (l : Fin 128) :
    laneTab (F := Ideal) x4 x5 n (ix2 h l) = FloatOps.fptosi (F := Ideal) (φ := .f32) 32
      (∑ p, oneHotTerm (fun p => x5 (ix3 0 0 p)) n h l
        (fun p => FloatOps.sitofp (F := Ideal) .f32 (IntOp.andi (x4 (ix3 0 0 p)) 127#32)) p) := by
  unfold laneTab k0_pay52 k0_pay50 k0_pay49 k0_pay48 k0_pay47 k0_pay46 k0_pay45 k0_pay44 k0_pay43 k0_pay42
  dsimp only
  pointwise

/-- The chunk table at an entry, as a one-hot product less 1. -/
theorem chunkTab_eq (h : Fin 16) (l : Fin 128) :
    chunkTab (F := Ideal) x4 x5 n (ix2 h l) = IntOp.subi (FloatOps.fptosi (F := Ideal) (φ := .f32) 32
      (∑ p, oneHotTerm (fun p => x5 (ix3 0 0 p)) n h l
        (fun p => FloatOps.sitofp (F := Ideal) .f32 (IntOp.andi (IntOp.shrsi .vector (x4 (ix3 0 0 p)) 7#32) 3#32) + 1) p)) 1#32 := by
  unfold chunkTab k0_pay53 k0_pay51 k0_pay49 k0_pay48 k0_pay47 k0_pay46 k0_pay45 k0_pay44 k0_pay43 k0_pay42
  dsimp only
  pointwise

variable {a b : Fin 2048 → BitVec 32} (H : PairsOk a b n) (ha : ∀ p, x4 (ix3 0 0 p) = a p) (hb : ∀ p, x5 (ix3 0 0 p) = b p)
include H ha hb

/-- The lane table at an entry that pair `p` hits. -/
theorem lane_hit (h : Fin 16) (l : Fin 128) (p : Fin 2048) (hp : Hits b n p (128 * h.val + l.val)) :
    laneTab (F := Ideal) x4 x5 n (ix2 h l) = BitVec.ofNat 32 ((a p).toNat % 128) := by
  have e : (IntOp.andi (a p) 127#32).toNat = (a p).toNat % 128 := by
    show ((a p) &&& 127#32).toNat = _
    rw [BitVec.toNat_and, show (127#32).toNat = 2 ^ 7 - 1 from rfl, Nat.and_two_pow_sub_one_eq_mod]
  rw [laneTab_eq, show (fun p => x5 (ix3 0 0 p)) = b from funext hb, oneHot_hit H h l _ p hp, ha p,
    sitofp_small _ (by rw [e]; omega), e, fptosi_nat _ (by omega)]

/-- The chunk table at an entry that pair `p` hits. -/
theorem chunk_hit (h : Fin 16) (l : Fin 128) (p : Fin 2048) (hp : Hits b n p (128 * h.val + l.val)) :
    chunkTab (F := Ideal) x4 x5 n (ix2 h l) = BitVec.ofNat 32 ((a p).toNat / 128 % 4) := by
  have hi := H.inp_lt p hp.1
  have e : (IntOp.andi (IntOp.shrsi .vector (a p) 7#32) 3#32).toNat = (a p).toNat / 128 % 4 := by
    show (IntOp.shrsi .vector (a p) 7#32 &&& 3#32).toNat = _
    rw [BitVec.toNat_and, show (3#32).toNat = 2 ^ 2 - 1 from rfl, Nat.and_two_pow_sub_one_eq_mod,
      shrsi_toNat _ _ 7 (by omega) (by omega)]
    rfl
  rw [chunkTab_eq, show (fun p => x5 (ix3 0 0 p)) = b from funext hb, oneHot_hit H h l _ p hp, ha p,
    sitofp_small _ (by rw [e]; omega), e]
  have hc : (a p).toNat / 128 % 4 < 4 := Nat.mod_lt _ (by omega)
  generalize (a p).toNat / 128 % 4 = c at hc
  rw [show ((c : ℝ) : EReal) + 1 = (((c + 1 : ℕ) : ℝ) : EReal) by push_cast; rfl, fptosi_nat _ (by omega)]
  interval_cases c <;> rfl

/-- The chunk table at an entry that no pair hits. -/
theorem chunk_miss (h : Fin 16) (l : Fin 128) (hp : ∀ p, ¬ Hits b n p (128 * h.val + l.val)) :
    chunkTab (F := Ideal) x4 x5 n (ix2 h l) = 4294967295#32 := by
  rw [chunkTab_eq, show (fun p => x5 (ix3 0 0 p)) = b from funext hb, oneHot_miss H h l _ hp,
    show (0 : EReal) = (((0 : ℕ) : ℝ) : EReal) by simp, fptosi_nat _ (by omega)]
  rfl
end

end Cert.Dw
-- ==== Proof.Scale.lean ====
/-
  The scales carried to the output voxels: the scale of the pair's input voxel where a pair hits, 0 elsewhere.
-/
module

public import proofs.«01_k».proof.Proof.Table

@[expose] public section

set_option maxRecDepth 16384

noncomputable section

namespace Cert.Dw

open Idealize.ShloMosaic Idealize.ShloMosaic.TcCoe Cert.KernelIdeal Cert.KernelIdeal.Gen

/-- A word as a lane: the gather takes it modulo 128. -/
abbrev laneOf (w : BitVec 32) : Fin 128 := ⟨w.toNat % 128, Nat.mod_lt _ (by omega)⟩

/-- Row `q` of the scene that row `h` belongs to. -/
abbrev sceneRow (h : Fin 16) (q : Fin 4) : Fin 16 := ⟨4 * (h.val / 4) + q.val, by omega⟩

/-- Row `q` of each scene, gathered by the lane table. -/
theorem gather_row0 (v17 : IVec S1x2048 32) (v19 : IVec S128x2048 32) (v36 : FVec Ideal S16x2048 .bf16)
    (v38 : IVec S16x2048 1) (z : Ideal .f32) (v40 : FVec Ideal S16x2048 .f32) (C : IVec S16x128 32)
    (sx : FVec Ideal S16x128 .f32) (h : Fin 16) (l : Fin 128) :
    k0_pay60 (F := Ideal) (k0_pay50 v17 v19 v36 v38 z v40) C (k0_pay54 sx) k0_pay55
      (k0_pay57 v17 v19 v36 v38 z v40 sx) (k0_pay58 sx) (k0_pay59 v17 v19 v36 v38 z v40) (ix2 h l)
      = Scalar.select (IntOp.cmpi .eq (C (ix2 h l)) 1#32) (sx (ix2 (sceneRow h 1) (laneOf (k0_pay50 v17 v19 v36 v38 z v40 (ix2 h l)))))
        (Scalar.select (IntOp.cmpi .eq (C (ix2 h l)) 0#32)
          (sx (ix2 (sceneRow h 0) (laneOf (k0_pay50 v17 v19 v36 v38 z v40 (ix2 h l))))) 0) := by
  unfold k0_pay57 k0_pay58 k0_pay59 k0_pay60 k0_pay56 k0_pay54 k0_pay55
  dsimp only
  generalize k0_pay50 v17 v19 v36 v38 z v40 = L
  pointwise
  fin_cases h <;> rfl

/-- Rows 2 and 3 of each scene, on top of the first two. -/
theorem gather_row3 (L C : IVec S16x128 32) (w : FVec Ideal S16x128 .f32)
    (sx : FVec Ideal S16x128 .f32) (h : Fin 16) (l : Fin 128) :
    k0_pay63 (F := Ideal) L C (k0_pay54 sx) w (k0_pay61 L (k0_pay54 sx)) k0_pay62 (ix2 h l)
      = Scalar.select (IntOp.cmpi .eq (C (ix2 h l)) 3#32) (sx (ix2 (sceneRow h 3) (laneOf (L (ix2 h l)))))
        (Scalar.select (IntOp.cmpi .eq (C (ix2 h l)) 2#32) (sx (ix2 (sceneRow h 2) (laneOf (L (ix2 h l))))) (w (ix2 h l))) := by
  unfold k0_pay63 k0_pay61 k0_pay62 k0_pay54
  pointwise
  fin_cases h <;> rfl

section
variable (sx : Vec Ideal S16x128 .f32) (x4 x5 : Vec Ideal S1x1x2048 .i32) (n : BitVec 32)

/-- The scales at an entry, by the two tables. -/
theorem scaleTab_eq (h : Fin 16) (l : Fin 128) :
    scaleTab (F := Ideal) sx x4 x5 n (ix2 h l)
      = Scalar.select (IntOp.cmpi .eq (chunkTab (F := Ideal) x4 x5 n (ix2 h l)) 3#32)
          (sx (ix2 (sceneRow h 3) (laneOf (laneTab (F := Ideal) x4 x5 n (ix2 h l)))))
        (Scalar.select (IntOp.cmpi .eq (chunkTab (F := Ideal) x4 x5 n (ix2 h l)) 2#32)
          (sx (ix2 (sceneRow h 2) (laneOf (laneTab (F := Ideal) x4 x5 n (ix2 h l)))))
        (Scalar.select (IntOp.cmpi .eq (chunkTab (F := Ideal) x4 x5 n (ix2 h l)) 1#32)
          (sx (ix2 (sceneRow h 1) (laneOf (laneTab (F := Ideal) x4 x5 n (ix2 h l)))))
        (Scalar.select (IntOp.cmpi .eq (chunkTab (F := Ideal) x4 x5 n (ix2 h l)) 0#32)
          (sx (ix2 (sceneRow h 0) (laneOf (laneTab (F := Ideal) x4 x5 n (ix2 h l))))) 0))) := by
  unfold scaleTab laneTab chunkTab k0_pay52 k0_pay53
  dsimp only
  rw [shapeCast_self, shapeCast_self, gather_row3, gather_row0]

variable {a b : Fin 2048 → BitVec 32} (H : PairsOk a b n) (ha : ∀ p, x4 (ix3 0 0 p) = a p) (hb : ∀ p, x5 (ix3 0 0 p) = b p)
include H ha hb

/-- The scale of an entry that pair `p` hits is that of the pair's input voxel. -/
theorem scale_hit (h : Fin 16) (l : Fin 128) (p : Fin 2048) (hp : Hits b n p (128 * h.val + l.val)) :
    scaleTab (F := Ideal) sx x4 x5 n (ix2 h l)
      = sx (ix2 ⟨(a p).toNat / 128, by have := H.inp_lt p hp.1; omega⟩ ⟨(a p).toNat % 128, by omega⟩) := by
  have hi := H.inp_lt p hp.1
  have hs := H.scene p hp.1
  have hv := hp.2
  rw [scaleTab_eq, lane_hit x4 x5 n H ha hb h l p hp, chunk_hit x4 x5 n H ha hb h l p hp]
  have e1 : laneOf (BitVec.ofNat 32 ((a p).toNat % 128)) = ⟨(a p).toNat % 128, by omega⟩ := by
    apply Fin.ext; show (BitVec.ofNat 32 ((a p).toNat % 128)).toNat % 128 = (a p).toNat % 128
    rw [BitVec.toNat_ofNat, Nat.mod_eq_of_lt (by omega)]; omega
  have e2 : ∀ q : Fin 4, (a p).toNat / 128 % 4 = q.val →
      sceneRow h q = ⟨(a p).toNat / 128, by omega⟩ := fun q hq => Fin.ext <| by
    show 4 * (h.val / 4) + q.val = (a p).toNat / 128
    omega
  rw [e1]
  have hc : (a p).toNat / 128 % 4 < 4 := Nat.mod_lt _ (by omega)
  generalize hd : (a p).toNat / 128 % 4 = c at hc e2
  interval_cases c
  · rw [← e2 0 rfl]; rfl
  · rw [← e2 1 rfl]; rfl
  · rw [← e2 2 rfl]; rfl
  · rw [← e2 3 rfl]; rfl

/-- The scale of an entry that no pair hits is 0. -/
theorem scale_miss (h : Fin 16) (l : Fin 128) (hp : ∀ p, ¬ Hits b n p (128 * h.val + l.val)) :
    scaleTab (F := Ideal) sx x4 x5 n (ix2 h l) = 0 := by
  rw [scaleTab_eq, chunk_miss x4 x5 n H ha hb h l hp]
  rfl
end

end Cert.Dw
-- ==== Proof.Arrays.lean ====
/-
  The arrays the body builds out of blocks, read at an index: the packed codes, the scaled output gradients and the
  gathered words.
-/
module

public import proofs.«01_k».proof.Proof.Scale
public import Idealize.ShloMosaic.Lib.BitcastFour
public import Idealize.ShloMosaic.Lib.Pipeline.Value
public import Idealize.ShloMosaic.Lib.Pipeline.ValueKit.Tiles

@[expose] public section

set_option maxRecDepth 16384

noncomputable section

namespace Cert.Dw

open Idealize.ShloMosaic Idealize.ShloMosaic.TcCoe Cert.KernelIdeal Cert.KernelIdeal.Gen

section Tiles
variable {Val : EltTy → Type} {s : Shape} {e : EltTy} {N : ℕ} (tsz : Fin s.rank → ℕ) (off : Fin N → Fin s.rank → ℕ)
  (inb : ∀ i a, off i a + tsz a ≤ s.size a) (P : Fin N → (⟨s.rank, tsz⟩ : Shape).Idx → Val e)

/-- A store of the list is the store of one of its tiles. -/
theorem of_mem_tilePieces : ∀ (j : ℕ) (hj : j ≤ N) (p : View.Piece Val s e), p ∈ View.tilePieces tsz off inb P j hj →
    ∃ i : Fin N, p = ⟨Rect.unit (off i) tsz (inb i), P i⟩
  | 0, _, _, h => by simp [View.tilePieces] at h
  | j + 1, hj, p, h => by
    rw [View.tilePieces_succ] at h
    rcases List.mem_cons.1 h with h | h
    · exact ⟨⟨j, hj⟩, h⟩
    · exact of_mem_tilePieces j _ p h

/-- The store of each of the first `j` tiles is in the list. -/
theorem mem_tilePieces : ∀ (j : ℕ) (hj : j ≤ N) (i : Fin N), i.val < j →
    (⟨Rect.unit (off i) tsz (inb i), P i⟩ : View.Piece Val s e) ∈ View.tilePieces tsz off inb P j hj
  | 0, _, _, h => absurd h (Nat.not_lt_zero _)
  | j + 1, hj, i, h => by
    rw [View.tilePieces_succ]
    by_cases e : i.val = j
    · obtain rfl : i = ⟨j, hj⟩ := Fin.ext e
      exact List.mem_cons_self
    · exact List.mem_cons_of_mem _ (mem_tilePieces j _ i (by omega))

/-- Tiles that all hold the values of one array leave that array at an index inside some tile. -/
theorem canon_tiles [∀ e, Nonempty (Val e)] (G : s.Idx → Val e)
    (hG : ∀ i x, P i x = G ((Rect.unit (off i) tsz (inb i)).emb x)) (y : s.Idx) (i : Fin N)
    (hy : ∀ a, off i a ≤ y a ∧ (y a : ℕ) < off i a + tsz a) :
    View.canon (View.tilePieces tsz off inb P N le_rfl) y = G y := by
  refine View.canon_apply_of_pieces G _ (fun p hp x => ?_) y ⟨_, mem_tilePieces tsz off inb P N le_rfl i i.isLt, ?_⟩
  · obtain ⟨j, rfl⟩ := of_mem_tilePieces tsz off inb P N le_rfl p hp
    exact hG j x
  · exact (Rect.mem_set_unit (inb := inb i)).2 hy
end Tiles

/-- A rank 2 index lies in a tile when both coordinates do. -/
theorem in_tile {R C r c : ℕ} (u v : ℕ) (y : (⟨2, ![R, C]⟩ : Shape).Idx) (h0 : u ≤ (y 0).val ∧ (y 0).val < u + r)
    (h1 : v ≤ (y 1).val ∧ (y 1).val < v + c) :
    ∀ a : Fin 2, (![u, v] : Fin 2 → ℕ) a ≤ (y a).val ∧ (y a).val < (![u, v] : Fin 2 → ℕ) a + (![r, c] : Fin 2 → ℕ) a := by
  intro a; fin_cases a
  · exact h0
  · exact h1

/-- The index array a load of whole rows and columns reads, at rank 2. -/
theorem ld_ix2 {α : EltTy → Type} {e : EltTy} {R C r c : ℕ} (X : (⟨2, ![R, C]⟩ : Shape).Idx → α e) (u v : ℕ)
    (inb : ∀ a, (![u, v] : Fin 2 → ℕ) a + (⟨2, ![r, c]⟩ : Shape).size a ≤ (⟨2, ![R, C]⟩ : Shape).size a) (i : Fin r) (j : Fin c)
    (hu : u + i.val < R) (hv : v + j.val < C) :
    View.ld (Val := α) (e' := e) X (Rect.unit (s := ⟨2, ![R, C]⟩) ![u, v] (⟨2, ![r, c]⟩ : Shape).size inb) (ix2 i j)
      = X (ix2 ⟨u + i.val, hu⟩ ⟨v + j.val, hv⟩) :=
  View.ld_unit_apply_of X _ _ inb (ix2 i j) (ix2 ⟨u + i.val, hu⟩ ⟨v + j.val, hv⟩) fun a => by fin_cases a <;> rfl

/-- A rank 2 index is its two coordinates. -/
theorem ix2_split {R C : ℕ} (z : (⟨2, ![R, C]⟩ : Shape).Idx) : ∃ (i : Fin R) (j : Fin C), z = ix2 i j :=
  ⟨z 0, z 1, by funext e; fin_cases e <;> rfl⟩

/-- The place of a tile's entry in the array, at rank 2. -/
theorem emb_ix2 {R C r c : ℕ} (u v : ℕ)
    (inb : ∀ a, (![u, v] : Fin 2 → ℕ) a + (⟨2, ![r, c]⟩ : Shape).size a ≤ (⟨2, ![R, C]⟩ : Shape).size a) (i : Fin r) (j : Fin c)
    (hu : u + i.val < R) (hv : v + j.val < C) :
    (Rect.unit (s := ⟨2, ![R, C]⟩) ![u, v] (⟨2, ![r, c]⟩ : Shape).size inb).emb (ix2 i j)
      = ix2 ⟨u + i.val, hu⟩ ⟨v + j.val, hv⟩ := by
  funext e; apply Fin.ext; fin_cases e
  · exact Rect.idx_unit_val _ _ _ _ _
  · exact Rect.idx_unit_val _ _ _ _ _

/-- The row of 128 that voxel `v` belongs to. -/
def voxRow (v : Fin 2048) : Fin 16 := ⟨v.val / 128, by omega⟩

/-- The position of voxel `v` in its row. -/
def voxLane (v : Fin 2048) : Fin 128 := ⟨v.val % 128, by omega⟩

/-- A voxel of row `b` and position `l`. -/
theorem voxRow_mk (b : Fin 16) (l : Fin 128) (h : 128 * b.val + l.val < 2048) : voxRow ⟨128 * b.val + l.val, h⟩ = b :=
  Fin.ext (by show (128 * b.val + l.val) / 128 = b.val; omega)

/-- A voxel of row `b` and position `l`. -/
theorem voxLane_mk (b : ℕ) (l : Fin 128) (h : 128 * b + l.val < 2048) : voxLane ⟨128 * b + l.val, h⟩ = l :=
  Fin.ext (by show (128 * b + l.val) % 128 = l.val; omega)

/-- The codes with the voxels along the columns. -/
def codesT (x : IVec S2048x256 8) : IVec ⟨2, ![256, 2048]⟩ 8 := fun y => x (ix2 (y 1) (y 0))

/-- The codes of all voxels, four in a word. -/
def packed (x : IVec S2048x256 8) : IVec S64x2048 32 :=
  bitcast S64x2048 32 (codesT x) (by decide : (⟨2, ![256, 2048]⟩ : Shape).Bitcasts 8 S64x2048 32)

/-- A bit of a packed word is a bit of a code. -/
theorem packed_getLsbD (x : IVec S2048x256 8) (a : Fin 64) (v : Fin 2048) (q : ℕ) (hq : q < 32) (p : Fin 256)
    (hp : p.val = 4 * a.val + q / 8) : (packed x (ix2 a v)).getLsbD q = (x (ix2 v p)).getLsbD (q % 8) :=
  bitcast_8_32_getLsbD_ix2 (codesT x) _ a v q hq p hp

/-- A byte widened by its sign and cut back is the byte. -/
theorem setWidth_signExtend (b : BitVec 8) : BitVec.setWidth 8 (BitVec.signExtend 32 b) = b := by
  revert b; decide

/-- The words one store packs. -/
theorem pay2_getLsbD (x : Vec Ideal S128x256 .i8) (a : Fin 64) (l : Fin 128) (q : ℕ) (hq : q < 32) (p : Fin 256)
    (hp : p.val = 4 * a.val + q / 8) : (k0_pay2 (F := Ideal) x (ix2 a l)).getLsbD q = (x (ix2 l p) : BitVec 8).getLsbD (q % 8) := by
  unfold k0_pay2
  dsimp only
  rw [shapeCast_self]
  refine (bitcast_8_32_getLsbD_ix2 _ _ a l q hq p hp).trans ?_
  pointwise
  exact congrArg (BitVec.getLsbD · (q % 8)) (setWidth_signExtend (x (ix2 l p)))

/-- The packed codes, whole. -/
theorem xtAll_eq (x : Vec Ideal S2048x256 .i8) : xtAll (F := Ideal) x = packed x := by
  funext y
  unfold xtAll xtPieces
  have h0 : (y 0).val < 64 := (y 0).isLt
  have h1 : (y 1).val < 2048 := (y 1).isLt
  have hb : (y 1).val / 128 < 16 := by omega
  refine canon_tiles (Val := Elt Ideal) (s := S64x2048) (e := .i32) S64x128.size (fun b : Fin 16 => ![0, 128 * b.val]) xtOff_inb (fun b => k0_pay2 (F := Ideal) (View.ld x (xRect b))) (packed x) (fun b z => ?_) y ⟨(y 1).val / 128, hb⟩
    (in_tile (R := 64) (C := 2048) (r := 64) (c := 128) 0 (128 * ((y 1).val / 128)) y ⟨by omega, by omega⟩ ⟨by omega, by omega⟩)
  obtain ⟨a, l, rfl⟩ := ix2_split (R := 64) (C := 128) z
  rw [emb_ix2 0 (128 * b.val) (xtOff_inb b) a l (by omega) (by omega)]
  refine BitVec.eq_of_getLsbD_eq fun q hq => ?_
  rw [pay2_getLsbD _ a l q hq ⟨4 * a.val + q / 8, by omega⟩ rfl,
    packed_getLsbD x _ _ q hq ⟨4 * a.val + q / 8, by omega⟩ (by simp)]
  exact congrArg (BitVec.getLsbD · (q % 8)) ((ld_ix2 x (128 * b.val) 0 _ l _ (by omega) (by omega)).trans
    (congrArg x (congrArg (ix2 _) (Fin.ext (Nat.zero_add _)))))

/-- The values one store scales. -/
theorem pay3_eq (d : Vec Ideal S128x384 .fp8e5m2) (s : Vec Ideal S1x128 .f32) (o : Fin 384) (l : Fin 128) :
    k0_pay3 (F := Ideal) d s (ix2 o l) = ((d (ix2 l o) : EReal) * s (ix2 0 l) : EReal) := by
  unfold k0_pay3
  pointwise

/-- The scaled output gradients: the code's value times the voxel's scale. -/
def scaledGrad (d : Vec Ideal S2048x384 .fp8e5m2) (s : Vec Ideal S16x128 .f32) : Vec Ideal S384x2048 .bf16 :=
  fun y => ((d (ix2 (y 1) (y 0)) : EReal) * s (ix2 (voxRow (y 1)) (voxLane (y 1))) : EReal)

/-- The scaled output gradients, whole. -/
theorem dytAll_eq (d : Vec Ideal S2048x384 .fp8e5m2) (s : Vec Ideal S16x128 .f32) : dytAll (F := Ideal) d s = scaledGrad d s := by
  funext y
  unfold dytAll dytPieces
  have h0 : (y 0).val < 384 := (y 0).isLt
  have h1 : (y 1).val < 2048 := (y 1).isLt
  have hb : (y 1).val / 128 < 16 := by omega
  refine canon_tiles (Val := Elt Ideal) (s := S384x2048) (e := .bf16) S384x128.size (fun b : Fin 16 => ![0, 128 * b.val]) dytOff_inb
    (fun b => k0_pay3 (F := Ideal) (View.ld d (dRect b)) (View.ld s (sRect b))) (scaledGrad d s) (fun b z => ?_) y ⟨(y 1).val / 128, hb⟩
    (in_tile (R := 384) (C := 2048) (r := 384) (c := 128) 0 (128 * ((y 1).val / 128)) y ⟨by omega, by omega⟩ ⟨by omega, by omega⟩)
  obtain ⟨a, l, rfl⟩ := ix2_split (R := 384) (C := 128) z
  rw [emb_ix2 0 (128 * b.val) (dytOff_inb b) a l (by omega) (by omega), pay3_eq]
  have e1 := ld_ix2 (α := Elt Ideal) (e := .fp8e5m2) d (128 * b.val) 0 (dOff_inb b) l a (by omega) (by omega)
  have e2 := ld_ix2 (α := Elt Ideal) (e := .f32) s b.val 0 (sOff_inb b) (0 : Fin 1) l (by simp) (by omega)
  refine congrArg₂ (fun u v : EReal => u * v) (e1.trans (congrArg d ?_)) (e2.trans (congrArg s ?_))
  · exact congrArg₂ ix2 rfl (Fin.ext rfl)
  · exact congrArg₂ ix2 ((Fin.ext rfl).trans (voxRow_mk b l (by omega)).symm)
      ((Fin.ext (Nat.zero_add _)).trans (voxLane_mk b.val l (by omega)).symm)

section Words
variable (xt : Vec Ideal S64x2048 .i32) (x4 x5 : Vec Ideal S1x1x2048 .i32) (n : BitVec 32)

/-- The voxel at lane `l` of row `q` of the scene that voxel `v` belongs to. -/
abbrev sceneVox (v : Fin 2048) (q : Fin 4) (l : Fin 128) : Fin 2048 := ⟨128 * (4 * (v.val / 128 / 4) + q.val) + l.val, by omega⟩

/-- The word gathered for row `r` and voxel `v`, by the two tables' entries. -/
def pickWord (lane chunk : BitVec 32) (r : Fin 64) (v : Fin 2048) : BitVec 32 :=
  Scalar.select (IntOp.cmpi .eq chunk 3#32) (xt (ix2 r (sceneVox v 3 (laneOf lane))))
    (Scalar.select (IntOp.cmpi .eq chunk 2#32) (xt (ix2 r (sceneVox v 2 (laneOf lane))))
      (Scalar.select (IntOp.cmpi .eq chunk 1#32) (xt (ix2 r (sceneVox v 1 (laneOf lane))))
        (xt (ix2 r (sceneVox v 0 (laneOf lane))))))

/-- One gathered block at an index. -/
theorem wordBlock_eq (lrow crow : Vec Ideal S1x128 .i32) (g0 g1 g2 g3 : Vec Ideal S8x128 .i32) (a : Fin 8) (l : Fin 128) :
    wordBlock (F := Ideal) lrow crow g0 g1 g2 g3 (ix2 a l)
      = Scalar.select (IntOp.cmpi .eq (crow (ix2 0 l)) 3#32) (g3 (ix2 a (laneOf (lrow (ix2 0 l)))))
        (Scalar.select (IntOp.cmpi .eq (crow (ix2 0 l)) 2#32) (g2 (ix2 a (laneOf (lrow (ix2 0 l)))))
          (Scalar.select (IntOp.cmpi .eq (crow (ix2 0 l)) 1#32) (g1 (ix2 a (laneOf (lrow (ix2 0 l)))))
            (g0 (ix2 a (laneOf (lrow (ix2 0 l))))))) := by
  unfold wordBlock k0_pay69 k0_pay68 k0_pay67 k0_pay66 k0_pay65 k0_pay64
  dsimp only
  pointwise

/-- The gathered words at an index. -/
theorem wordsAll_eq (r : Fin 64) (v : Fin 2048) :
    wordsAll (F := Ideal) xt x4 x5 n (ix2 r v)
      = pickWord xt (laneTab (F := Ideal) x4 x5 n (ix2 (voxRow v) (voxLane v)))
          (chunkTab (F := Ideal) x4 x5 n (ix2 (voxRow v) (voxLane v))) r v := by
  unfold wordsAll wordPieces
  generalize laneTab (F := Ideal) x4 x5 n = L
  generalize chunkTab (F := Ideal) x4 x5 n = C
  have hr := r.isLt
  have hv := v.isLt
  have hn : r.val / 8 + 8 * (v.val / 128) < 128 := by omega
  refine canon_tiles (Val := Elt Ideal) (s := S64x2048) (e := .i32) S8x128.size blockOff blockOff_inb _
    (fun y : S64x2048.Idx => pickWord xt (L (ix2 (voxRow (y 1)) (voxLane (y 1)))) (C (ix2 (voxRow (y 1)) (voxLane (y 1)))) (y 0) (y 1))
    (fun m z => ?_) (ix2 r v) ⟨r.val / 8 + 8 * (v.val / 128), hn⟩
    (in_tile (R := 64) (C := 2048) (r := 8) (c := 128) (8 * ((r.val / 8 + 8 * (v.val / 128)) % 8)) (128 * ((r.val / 8 + 8 * (v.val / 128)) / 8)) (ix2 r v)
      ⟨by show _ ≤ r.val; omega, by show r.val < _; omega⟩ ⟨by show _ ≤ v.val; omega, by show v.val < _; omega⟩)
  obtain ⟨a, l, rfl⟩ := ix2_split (R := 8) (C := 128) z
  have hm := m.isLt
  have ha := a.isLt
  have hl := l.isLt
  unfold blockOff
  rw [emb_ix2 (8 * (m.val % 8)) (128 * (m.val / 8)) (blockOff_inb m) a l (by omega) (by omega)]
  refine (wordBlock_eq _ _ _ _ _ _ a l).trans ?_
  have eL : ∀ T : IVec S16x128 32, View.ld (Val := Elt Ideal) (e' := .i32) T (rowRect m) (ix2 0 l)
      = T (ix2 (voxRow ⟨128 * (m.val / 8) + l.val, by omega⟩) (voxLane ⟨128 * (m.val / 8) + l.val, by omega⟩)) := fun T =>
    (ld_ix2 (α := Elt Ideal) (e := .i32) T (m.val / 8) 0 (rowOff_inb m) (0 : Fin 1) l (by simp; omega) (by omega)).trans
      (congrArg T (congrArg₂ ix2 ((Fin.ext rfl).trans (voxRow_mk ⟨m.val / 8, by omega⟩ l (by show 128 * (m.val / 8) + l.val < 2048; omega)).symm)
        ((Fin.ext (Nat.zero_add _)).trans (voxLane_mk (m.val / 8) l (by omega)).symm)))
  have eX : ∀ (q : Fin 4) (j : Fin 128), View.ld (Val := Elt Ideal) (e' := .i32) xt (sceneRect m q) (ix2 a j)
      = xt (ix2 ⟨8 * (m.val % 8) + a.val, by omega⟩ (sceneVox ⟨128 * (m.val / 8) + l.val, by omega⟩ q j)) := fun q j => by
    refine (ld_ix2 (α := Elt Ideal) (e := .i32) xt (8 * (m.val % 8)) (128 * (4 * (m.val / 32) + q.val)) (sceneOff_inb m q) a j
      (by omega) (by omega)).trans (congrArg xt (congrArg₂ ix2 rfl (Fin.ext ?_)))
    show 128 * (4 * (m.val / 32) + q.val) + j.val = 128 * (4 * ((128 * (m.val / 8) + l.val) / 128 / 4) + q.val) + j.val
    omega
  dsimp only
  rw [eL, eL, eX, eX, eX, eX]
  rfl

variable {a b : Fin 2048 → BitVec 32} (H : PairsOk a b n) (ha : ∀ p, x4 (ix3 0 0 p) = a p) (hb : ∀ p, x5 (ix3 0 0 p) = b p)
include H ha hb

/-- The words of a voxel that pair `p` hits are those of the pair's input voxel. -/
theorem words_hit (r : Fin 64) (v : Fin 2048) (p : Fin 2048) (hp : Hits b n p v.val) :
    wordsAll (F := Ideal) xt x4 x5 n (ix2 r v) = xt (ix2 r ⟨(a p).toNat, H.inp_lt p hp.1⟩) := by
  have hi := H.inp_lt p hp.1
  have hs := H.scene p hp.1
  have hv := hp.2
  have hp' : Hits b n p (128 * (voxRow v).val + (voxLane v).val) :=
    ⟨hp.1, by show _ = 128 * (v.val / 128) + v.val % 128; omega⟩
  rw [wordsAll_eq, lane_hit x4 x5 n H ha hb _ _ p hp', chunk_hit x4 x5 n H ha hb _ _ p hp']
  have e2 : ∀ q : Fin 4, (a p).toNat / 128 % 4 = q.val →
      sceneVox v q (laneOf (BitVec.ofNat 32 ((a p).toNat % 128))) = ⟨(a p).toNat, hi⟩ := fun q hq => Fin.ext <| by
    show 128 * (4 * (v.val / 128 / 4) + q.val) + (BitVec.ofNat 32 ((a p).toNat % 128)).toNat % 128 = (a p).toNat
    rw [BitVec.toNat_ofNat, Nat.mod_eq_of_lt (by omega)]
    omega
  have hc : (a p).toNat / 128 % 4 < 4 := Nat.mod_lt _ (by omega)
  unfold pickWord
  generalize hd : (a p).toNat / 128 % 4 = c at hc e2
  interval_cases c
  · rw [← e2 0 rfl]; rfl
  · rw [← e2 1 rfl]; rfl
  · rw [← e2 2 rfl]; rfl
  · rw [← e2 3 rfl]; rfl
end Words

/-- The code read back out of a block of words at a voxel that pair `p` hits is the code of the pair's input voxel. -/
theorem code_hit (x : IVec S2048x256 8) (x4 x5 : Vec Ideal S1x1x2048 .i32) (n : BitVec 32) {a b : Fin 2048 → BitVec 32}
    (H : PairsOk a b n) (ha : ∀ p, x4 (ix3 0 0 p) = a p) (hb : ∀ p, x5 (ix3 0 0 p) = b p) (c : Fin 8) (i : Fin 256)
    (w : Fin 256) (p : Fin 2048) (hp : Hits b n p (256 * c.val + w.val)) :
    bitcast S256x256 8 (View.ld (Val := Elt Ideal) (e' := .i32) (wordsAll (F := Ideal) (packed x) x4 x5 n) (wordRect c))
        bitcasts_S64x256_w32_S256x256_w8 (ix2 i w) = x (ix2 ⟨(a p).toNat, H.inp_lt p hp.1⟩ i) := by
  refine BitVec.eq_of_getLsbD_eq fun q hq => ?_
  refine (bitcast_getLsbD _ bitcasts_S64x256_w32_S256x256_w8 (ix2 i w) q hq (by decide)).trans ?_
  have hrow : S256x256.row (ix2 i w) = i.val := rfl
  have hi := i.isLt
  rw [show Shape.Bitcasts.srcIdx bitcasts_S64x256_w32_S256x256_w8 (ix2 i w) _ _ = ix2 (⟨i.val / 4, by omega⟩ : Fin 64) w from by
    funext e; apply Fin.ext; fin_cases e
    · refine (Shape.Bitcasts.srcIdx_row _ _ _ _ _ rfl).trans ?_
      show (S256x256.row (ix2 i w) * 8 + q) / 32 = i.val / 4
      rw [hrow]; omega
    · exact Shape.Bitcasts.srcIdx_other _ _ _ _ _ (by decide)]
  rw [show View.ld (Val := Elt Ideal) (e' := .i32) (wordsAll (F := Ideal) (packed x) x4 x5 n) (wordRect c)
      (ix2 (⟨i.val / 4, by omega⟩ : Fin 64) w)
      = packed x (ix2 ⟨i.val / 4, by omega⟩ ⟨(a p).toNat, H.inp_lt p hp.1⟩) from by
    refine (ld_ix2 (α := Elt Ideal) (e := .i32) _ 0 (256 * c.val) (wordOff_inb c) (⟨i.val / 4, by omega⟩ : Fin 64) w
      (by simp; omega) (by omega)).trans ?_
    refine (words_hit (packed x) x4 x5 n H ha hb _ ⟨256 * c.val + w.val, by omega⟩ p hp).trans ?_
    exact congrArg (packed x) (congrArg₂ ix2 (Fin.ext (Nat.zero_add _)) rfl)]
  rw [hrow, packed_getLsbD x _ _ _ (by omega) i (by show i.val = 4 * (i.val / 4) + _; omega)]
  congr 1
  omega

end Cert.Dw
-- ==== Proof.BodyIdeal.lean ====
/-
  The output block of one offset over the extended reals: the sum over the pairs that count.

  The body sums over the 2048 output voxels, in 8 blocks of two rows of 128. A voxel that no pair hits has scale 0 and
  adds 0; a voxel that a pair hits adds the pair's term; no voxel is hit twice. So the sum over the voxels is the sum over
  the pairs.
-/
module

public import proofs.«01_k».proof.Proof.Arrays

@[expose] public section

set_option maxRecDepth 16384

noncomputable section

namespace Cert.Dw

open Idealize.ShloMosaic Idealize.ShloMosaic.TcCoe Cert.KernelIdeal Cert.KernelIdeal.Gen
open scoped Classical

/-- A word as a voxel. -/
def vox (w : BitVec 32) : Fin 2048 := ⟨w.toNat % 2048, Nat.mod_lt _ (by omega)⟩

/-- A word below 2048 is its voxel. -/
theorem vox_val (w : BitVec 32) (h : w.toNat < 2048) : (vox w).val = w.toNat := Nat.mod_eq_of_lt h

/-- What pair `p` adds to entry `(i, o)`: the output gradient of its output voxel times the code of its input voxel. -/
def pairTerm (x : IVec S2048x256 8) (sx : Vec Ideal S16x128 .f32) (d : Vec Ideal S2048x384 .fp8e5m2) (sd : Vec Ideal S16x128 .f32)
    (a b : Fin 2048 → BitVec 32) (i : Fin 256) (o : Fin 384) (p : Fin 2048) : EReal :=
  (d (ix2 (vox (b p)) o) : EReal) * (sd (ix2 (voxRow (vox (b p))) (voxLane (vox (b p)))) : EReal)
    * (sx (ix2 (voxRow (vox (a p))) (voxLane (vox (a p)))) : EReal) * Ideal.ofBits .fp8e4m3 (x (ix2 (vox (a p)) i))

/-- One block product at an entry, as two sums over 128 voxels. -/
theorem block_eq (s0 s1 : Vec Ideal S1x128 .f32) (g : Vec Ideal S384x256 .bf16) (w : IVec S256x256 8) (i : Fin 256) (o : Fin 384) :
    matmul dot_S384x256_S256x256_S384x256_1_1_0_0_n_n none (k0_pay401 (F := Ideal) s0 s1 g)
        (bitcastToFloat .fp8e4m3 w) (constant S384x256 .f32 0x00000000#32) (ix2 o i)
      = (∑ l : Fin 128, (g (ix2 o ⟨l.val, by omega⟩) : EReal) * (s0 (ix2 0 l) : EReal) * Ideal.ofBits .fp8e4m3 (w (ix2 i ⟨l.val, by omega⟩)) : EReal)
        + ∑ l : Fin 128, (g (ix2 o ⟨128 + l.val, by omega⟩) : EReal) * (s1 (ix2 0 l) : EReal)
            * Ideal.ofBits .fp8e4m3 (w (ix2 i ⟨128 + l.val, by omega⟩)) := by
  unfold k0_pay401
  dsimp only
  pointwise

/-- The sum of the first `j` block products at an entry. -/
theorem accUpTo_eq (dy : Fin 8 → Vec Ideal S384x256 .bf16) (s0 s1 : Fin 8 → Vec Ideal S1x128 .f32) (w : Fin 8 → Vec Ideal S64x256 .i32)
    (i : Fin 256) (o : Fin 384) (B : Fin 8 → EReal)
    (hB : ∀ b, matmul dot_S384x256_S256x256_S384x256_1_1_0_0_n_n none (k0_pay401 (F := Ideal) (s0 b) (s1 b) (dy b))
        (bitcastToFloat .fp8e4m3 (bitcast S256x256 8 (w b) bitcasts_S64x256_w32_S256x256_w8)) (constant S384x256 .f32 0x00000000#32)
        (ix2 o i) = B b) :
    ∀ (j : ℕ) (hj : j ≤ 8), accUpTo (F := Ideal) dy s0 s1 w j hj (ix2 o i) = ∑ b : Fin j, B (b.castLE hj)
  | 0, _ => by
    show Ideal.ofBits .f32 0x00000000#32 = _
    rw [Finset.univ_eq_empty, Finset.sum_empty]
    exact Ideal.ofBits_zero_f32
  | j + 1, hj => by
    rw [Fin.sum_univ_castSucc]
    exact congrArg₂ (fun u v : EReal => u + v) (accUpTo_eq dy s0 s1 w i o B hB j (Nat.le_of_succ_le hj)) (hB ⟨j, hj⟩)

/-- The output block at an entry. -/
theorem outBlock_eq (dy : Fin 8 → Vec Ideal S384x256 .bf16) (s0 s1 : Fin 8 → Vec Ideal S1x128 .f32) (w : Fin 8 → Vec Ideal S64x256 .i32)
    (i : Fin 256) (o : Fin 384) :
    outBlock (F := Ideal) dy s0 s1 w (ix3 0 i o) = accUpTo (F := Ideal) dy s0 s1 w 8 le_rfl (ix2 o i) := by
  unfold outBlock
  pointwise

/-- A sum over 8 blocks of two rows of 128 is the sum over the 2048 voxels. -/
theorem sum_blocks (T : Fin 2048 → EReal) :
    ∑ c : Fin 8, ((∑ l : Fin 128, T ⟨256 * c.val + l.val, by omega⟩) + ∑ l : Fin 128, T ⟨256 * c.val + (128 + l.val), by omega⟩)
      = ∑ v, T v := by
  have h1 : ∑ v, T v = ∑ h : Fin 16, ∑ l : Fin 128, T ⟨128 * h.val + l.val, by omega⟩ := by
    rw [← Fintype.sum_prod_type', ← Equiv.sum_comp (finProdFinEquiv (m := 16) (n := 128))]
    exact Finset.sum_congr rfl fun q _ => congrArg T (Fin.ext (Nat.add_comm _ _))
  have h2 : ∀ g : Fin 16 → EReal, ∑ h, g h = ∑ c : Fin 8, (g ⟨2 * c.val, by omega⟩ + g ⟨2 * c.val + 1, by omega⟩) := fun g => by
    rw [← Equiv.sum_comp (finProdFinEquiv (m := 8) (n := 2)), Fintype.sum_prod_type]
    refine Finset.sum_congr rfl fun c _ => ?_
    rw [Fin.sum_univ_two]
    exact congrArg₂ (fun u v => g u + g v) (Fin.ext (Nat.zero_add _)) (Fin.ext (Nat.add_comm _ _))
  rw [h1, h2]
  refine Finset.sum_congr rfl fun c _ => congrArg₂ (· + ·) (Finset.sum_congr rfl fun l _ => congrArg T (Fin.ext ?_))
    (Finset.sum_congr rfl fun l _ => congrArg T (Fin.ext ?_))
  · show 256 * c.val + l.val = 128 * (2 * c.val) + l.val
    omega
  · show 256 * c.val + (128 + l.val) = 128 * (2 * c.val + 1) + l.val
    omega

section
variable (x : IVec S2048x256 8) (sx : Vec Ideal S16x128 .f32) (d : Vec Ideal S2048x384 .fp8e5m2) (sd : Vec Ideal S16x128 .f32)
  (x4 x5 : Vec Ideal S1x1x2048 .i32) (n : BitVec 32)

/-- What output voxel `v` adds to an entry: the gradients, the carried scale and the code read out of the gathered words. -/
def voxTerm (i : Fin 256) (o : Fin 384) (c : Fin 8) (w : Fin 256) (h : Fin 16) (l : Fin 128) : EReal :=
  (scaledGrad d sd (ix2 o ⟨256 * c.val + w.val, by omega⟩) : EReal) * (scaleTab (F := Ideal) sx x4 x5 n (ix2 h l) : EReal)
    * Ideal.ofBits .fp8e4m3 (bitcast S256x256 8 (View.ld (Val := Elt Ideal) (e' := .i32) (wordsAll (F := Ideal) (packed x) x4 x5 n) (wordRect c))
        bitcasts_S64x256_w32_S256x256_w8 (ix2 i w))

variable {a b : Fin 2048 → BitVec 32} (H : PairsOk a b n) (ha : ∀ p, x4 (ix3 0 0 p) = a p) (hb : ∀ p, x5 (ix3 0 0 p) = b p)
include H ha hb

/-- A voxel's term is the sum of the terms of the pairs that hit it. -/
theorem voxTerm_eq (i : Fin 256) (o : Fin 384) (c : Fin 8) (w : Fin 256) (h : Fin 16) (l : Fin 128)
    (hv : 256 * c.val + w.val = 128 * h.val + l.val) :
    voxTerm x sx d sd x4 x5 n i o c w h l
      = ∑ p, if Hits b n p (256 * c.val + w.val) then pairTerm x sx d sd a b i o p else 0 := by
  unfold voxTerm
  by_cases hex : ∃ p, Hits b n p (256 * c.val + w.val)
  · obtain ⟨p, hp⟩ := hex
    have hi := H.inp_lt p hp.1
    rw [Finset.sum_eq_single p (fun q _ hq => if_neg fun hh => hq (H.inj q p hh.1 hp.1 (BitVec.eq_of_toNat_eq (hh.2.trans hp.2.symm))))
      (fun hh => absurd (Finset.mem_univ p) hh), if_pos hp, code_hit x x4 x5 n H ha hb c i w p hp,
      scale_hit sx x4 x5 n H ha hb h l p (hv ▸ hp)]
    have e1 : (⟨256 * c.val + w.val, by omega⟩ : Fin 2048) = vox (b p) := Fin.ext (by
      rw [vox_val _ (H.out_lt p hp.1)]; exact hp.2.symm)
    have e2 : (⟨(a p).toNat, hi⟩ : Fin 2048) = vox (a p) := Fin.ext (vox_val _ hi).symm
    rw [e1, e2]
    unfold pairTerm scaledGrad
    refine congrArg (fun u : EReal => _ * u * _) (congrArg sx (congrArg₂ ix2 (Fin.ext ?_) (Fin.ext ?_)))
    · show _ = (vox (a p)).val / 128; rw [vox_val _ hi]
    · show _ = (vox (a p)).val % 128; rw [vox_val _ hi]
  · rw [scale_miss sx x4 x5 n H ha hb h l (fun p hp => hex ⟨p, hv ▸ hp⟩), Finset.sum_eq_zero fun p _ => if_neg fun hp => hex ⟨p, hp⟩]
    show (_ : EReal) * 0 * _ = 0
    rw [mul_zero, zero_mul]

/-- The output block of one offset, as the sum over its pairs that count. -/
theorem bodyOut_eq (i : Fin 256) (o : Fin 384) :
    bodyOut (F := Ideal) (packed x) (scaledGrad d sd) sx x4 x5 n (ix3 0 i o)
      = ∑ p, if Valid n p then pairTerm x sx d sd a b i o p else 0 := by
  have hT : ∀ T : Fin 2048 → EReal, (∀ v : Fin 2048, T v = ∑ p, if Hits b n p v.val then pairTerm x sx d sd a b i o p else 0) →
      ∑ v, T v = ∑ p, if Valid n p then pairTerm x sx d sd a b i o p else 0 := fun T hT => by
    rw [Finset.sum_congr rfl fun v _ => hT v, Finset.sum_comm]
    refine Finset.sum_congr rfl fun p _ => ?_
    by_cases hp : Valid n p
    · rw [if_pos hp, Finset.sum_eq_single (vox (b p)), if_pos ⟨hp, (vox_val _ (H.out_lt p hp)).symm⟩]
      · exact fun v _ hv => if_neg fun hh => hv (Fin.ext (hh.2.symm.trans (vox_val _ (H.out_lt p hp)).symm))
      · exact fun hh => absurd (Finset.mem_univ _) hh
    · rw [if_neg hp]
      exact Finset.sum_eq_zero fun v _ => if_neg fun hh => hp hh.1
  have hT' := hT (fun v => ∑ p, if Hits b n p v.val then pairTerm x sx d sd a b i o p else 0) (fun _ => rfl)
  rw [← hT', ← sum_blocks]
  unfold bodyOut
  rw [outBlock_eq]
  refine accUpTo_eq _ _ _ _ i o (fun c =>
    (∑ l : Fin 128, ∑ p, if Hits b n p (256 * c.val + l.val) then pairTerm x sx d sd a b i o p else 0)
      + ∑ l : Fin 128, ∑ p, if Hits b n p (256 * c.val + (128 + l.val)) then pairTerm x sx d sd a b i o p else 0) (fun c => ?_) 8 le_rfl
  refine (block_eq _ _ _ _ i o).trans ?_
  have eG : ∀ w : Fin 256, View.ld (Val := Elt Ideal) (e' := .bf16) (scaledGrad d sd) (dyRect c) (ix2 o w)
      = scaledGrad d sd (ix2 o ⟨256 * c.val + w.val, by omega⟩) := fun w =>
    (ld_ix2 (α := Elt Ideal) (e := .bf16) (scaledGrad d sd) 0 (256 * c.val) (dyOff_inb c) o w (by simp) (by omega)).trans
      (congrArg (scaledGrad d sd) (congrArg₂ ix2 (Fin.ext (Nat.zero_add _)) rfl))
  refine congrArg₂ (fun u v : EReal => u + v) (Finset.sum_congr rfl fun l _ => ?_) (Finset.sum_congr rfl fun l _ => ?_)
  · refine Eq.trans ?_ (voxTerm_eq x sx d sd x4 x5 n H ha hb i o c ⟨l.val, by omega⟩ ⟨2 * c.val, by omega⟩ l (by simp; omega))
    refine congrArg₂ (fun u v : EReal => u * v * _) (eG _) ?_
    refine (ld_ix2 (α := Elt Ideal) (e := .f32) (scaleTab (F := Ideal) sx x4 x5 n) (2 * c.val) 0 (scaleOff0_inb c) (0 : Fin 1) l
      (by simp; omega) (by omega)).trans (congrArg _ (congrArg₂ ix2 (Fin.ext rfl) (Fin.ext (Nat.zero_add _))))
  · refine Eq.trans ?_ (voxTerm_eq x sx d sd x4 x5 n H ha hb i o c ⟨128 + l.val, by omega⟩ ⟨2 * c.val + 1, by omega⟩ l (by simp; omega))
    refine congrArg₂ (fun u v : EReal => u * v * _) (eG _) ?_
    refine (ld_ix2 (α := Elt Ideal) (e := .f32) (scaleTab (F := Ideal) sx x4 x5 n) (2 * c.val + 1) 0 (scaleOff1_inb c) (0 : Fin 1) l
      (by simp; omega) (by omega)).trans (congrArg _ (congrArg₂ ix2 (Fin.ext rfl) (Fin.ext (Nat.zero_add _))))
end

end Cert.Dw
-- ==== Proof.KernelArray.lean ====
/-
  The kernel's result array: block `k` holds offset `k`'s output block of the whole operands.
-/
module

public import proofs.«01_k».proof.Proof.BodyValue
public import proofs.«01_k».proof.Proof.BodyIdeal
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.Dw

open Idealize.ShloMosaic Idealize.ShloMosaic.TcCoe Cert.KernelIdeal Cert.KernelIdeal.Gen

variable {F : FTy → Type} [FloatOps F]
variable (m : (ℓ : Loc nD τ sig) → Buf (Elt F) ℓ) (hO : Ok m)

/-- The grid point as an offset. -/
def offset (t : Fin (cfgM m hO).N) : Fin 27 := ⟨t.val, Nat.lt_of_lt_of_eq t.isLt N_0⟩

/-- The grid has one axis: the point's coordinate is its number. -/
theorem coord_val (t : Fin grid0.N) : (grid0.coords t 0).val = t.val := by
  have ht : t.val < 27 := Nat.lt_of_lt_of_eq t.isLt N_0
  have e0 : (grid0.coords t 0).val = t.val / 1 % 27 := Pipeline.Grid.coords_val t 0 (by decide) rfl
  rw [e0]; omega

/-- The block of a row window at point `t` is row `t`. -/
theorem row_index (t : Fin grid0.N) : (BitVec.ofNat 32 (grid0.coords t 0).val).toNat = t.val := by
  have ht : t.val < 27 := Nat.lt_of_lt_of_eq t.isLt N_0
  rw [coord_val, BitVec.toNat_ofNat]; omega

/-- The block of a window over a whole array starts at 0 on each axis. -/
theorem index_0 (t : Fin (cfgM m hO).N) : ∀ a : Fin 2, ((pcfg0 (F := F)).win (adm m hO) 0).index t a = 0
  | ⟨0, _⟩ => rfl
  | ⟨1, _⟩ => rfl

@[inherit_doc index_0]
theorem index_1 (t : Fin (cfgM m hO).N) : ∀ a : Fin 2, ((pcfg0 (F := F)).win (adm m hO) 1).index t a = 0
  | ⟨0, _⟩ => rfl
  | ⟨1, _⟩ => rfl

@[inherit_doc index_0]
theorem index_2 (t : Fin (cfgM m hO).N) : ∀ a : Fin 2, ((pcfg0 (F := F)).win (adm m hO) 2).index t a = 0
  | ⟨0, _⟩ => rfl
  | ⟨1, _⟩ => rfl

@[inherit_doc index_0]
theorem index_3 (t : Fin (cfgM m hO).N) : ∀ a : Fin 2, ((pcfg0 (F := F)).win (adm m hO) 3).index t a = 0
  | ⟨0, _⟩ => rfl
  | ⟨1, _⟩ => rfl

/-- A row window's block at point `t` is row `t`. -/
theorem index_4 (t : Fin (cfgM m hO).N) : ∀ a : Fin 3, ((pcfg0 (F := F)).win (adm m hO) 4).index t a = ![t.val, 0, 0] a
  | ⟨0, _⟩ => row_index t
  | ⟨1, _⟩ => rfl
  | ⟨2, _⟩ => rfl

@[inherit_doc index_4]
theorem index_5 (t : Fin (cfgM m hO).N) : ∀ a : Fin 3, ((pcfg0 (F := F)).win (adm m hO) 5).index t a = ![t.val, 0, 0] a
  | ⟨0, _⟩ => row_index t
  | ⟨1, _⟩ => rfl
  | ⟨2, _⟩ => rfl

@[inherit_doc index_4]
theorem index_6 (t : Fin (cfgM m hO).N) : ∀ a : Fin 3, ((pcfg0 (F := F)).win (adm m hO) 6).index t a = ![t.val, 0, 0] a
  | ⟨0, _⟩ => row_index t
  | ⟨1, _⟩ => rfl
  | ⟨2, _⟩ => rfl

/-! ## The arrays the kernel is handed -/

/-- The scales of the voxels, as the host lays them out for the kernel: row `h`, lane `l` is voxel `128h + l`. -/
def table (s : Vec F S2048 .f32) : Vec F S16x128 .f32 := shapeCast S16x128 s shapeCasts_S2048_S16x128

/-- A list of pairs, as the host lays it out for the kernel. -/
def pairRows (a : IVec S27x2048 32) : IVec S27x1x2048 32 := shapeCast S27x1x2048 a shapeCasts_S27x2048_S27x1x2048

theorem pairRows_apply (a : IVec S27x2048 32) (k : Fin 27) (p : Fin 2048) : pairRows a (ix3 k 0 p) = a (ix2 k p) := by
  unfold pairRows
  pointwise

theorem V_main_v0 (c : Dev nD) : (V m c main_v0 : Vec F S16x128 .f32) = table (m ((c : Thread nD τ).loc main_arg1)) := by
  entry_read
  rfl
theorem V_main_v1 (c : Dev nD) : (V m c main_v1 : Vec F S16x128 .f32) = table (m ((c : Thread nD τ).loc main_arg3)) := by
  entry_read
  rfl
theorem V_main_v2 (c : Dev nD) : (V m c main_v2 : IVec S27x1x2048 32) = pairRows (m ((c : Thread nD τ).loc main_arg4)) := by
  entry_read
  rfl
theorem V_main_v3 (c : Dev nD) : (V m c main_v3 : IVec S27x1x2048 32) = pairRows (m ((c : Thread nD τ).loc main_arg5)) := by
  entry_read
  rfl

/-! ## The blocks the windows stage -/

theorem iblk_0 (c : Dev nD) (t : Fin (cfgM m hO).N) : (iblk m hO c 0 t : Vec F S2048x256 .i8) = m ((c : Thread nD τ).loc main_arg0) := by
  refine Eq.trans ?_ (V_main_arg0 m c)
  funext y
  blk_ext [iblk] <;> (rw [index_0]; omega)

theorem iblk_1 (c : Dev nD) (t : Fin (cfgM m hO).N) : (iblk m hO c 1 t : Vec F S16x128 .f32) = table (m ((c : Thread nD τ).loc main_arg1)) := by
  rw [← V_main_v0]
  funext y
  blk_ext [iblk] <;> (rw [index_1]; omega)

theorem iblk_2 (c : Dev nD) (t : Fin (cfgM m hO).N) : (iblk m hO c 2 t : Vec F S2048x384 .fp8e5m2) = m ((c : Thread nD τ).loc main_arg2) := by
  refine Eq.trans ?_ (V_main_arg2 m c)
  funext y
  blk_ext [iblk] <;> (rw [index_2]; omega)

theorem iblk_3 (c : Dev nD) (t : Fin (cfgM m hO).N) : (iblk m hO c 3 t : Vec F S16x128 .f32) = table (m ((c : Thread nD τ).loc main_arg3)) := by
  rw [← V_main_v1]
  funext y
  blk_ext [iblk] <;> (rw [index_3]; omega)

theorem iblk_4 (c : Dev nD) (t : Fin (cfgM m hO).N) (p : Fin 2048) :
    (iblk m hO c 4 t : IVec S1x1x2048 32) (ix3 0 0 p) = (m ((c : Thread nD τ).loc main_arg4) : IVec S27x2048 32) (ix2 (offset m hO t) p) := by
  refine Eq.trans ?_ ((congrFun (V_main_v2 m c) (ix3 (offset m hO t) 0 p)).trans (pairRows_apply _ _ _))
  blk_ext [iblk] <;> rw [index_4]
  · rfl
  · show 0 * 1 + 0 = 0; rfl
  · show 0 * 2048 + p.val = p.val; omega

theorem iblk_5 (c : Dev nD) (t : Fin (cfgM m hO).N) (p : Fin 2048) :
    (iblk m hO c 5 t : IVec S1x1x2048 32) (ix3 0 0 p) = (m ((c : Thread nD τ).loc main_arg5) : IVec S27x2048 32) (ix2 (offset m hO t) p) := by
  refine Eq.trans ?_ ((congrFun (V_main_v3 m c) (ix3 (offset m hO t) 0 p)).trans (pairRows_apply _ _ _))
  blk_ext [iblk] <;> rw [index_5]
  · rfl
  · show 0 * 1 + 0 = 0; rfl
  · show 0 * 2048 + p.val = p.val; omega

/-- The count the body reads at point `t` is offset `t`'s. -/
theorem count_eq (c : Dev nD) (t : Fin (cfgM m hO).N) :
    countOf (F := F) c (grid0.coords t) (tbl m 0) = (m ((c : Thread nD τ).loc main_arg6) : IVec S27 32) (ix1 (offset m hO t)) := by
  obtain rfl : c = 0 := Subsingleton.elim _ _
  have h : tbl m 0 = m (((0 : Dev nD) : Thread nD τ).loc main_arg6) := V_main_arg6 m 0
  rw [h]
  unfold countOf
  rw [View.readAt_apply]
  refine congrArg (m (((0 : Dev nD) : Thread nD τ).loc main_arg6) : IVec S27 32) (funext fun a => Fin.ext ?_)
  match a with
  | ⟨0, _⟩ =>
    show (BitVec.ofNat 32 (grid0.coords t 0).val).toNat + 1 * 0 = t.val
    rw [row_index]
    omega

/-! ## The grid -/

/-- What the first point leaves in the first carried buffer: the packed codes. -/
abbrev codes (c : Dev nD) : Vec F S64x2048 .i32 := xtAll (m ((c : Thread nD τ).loc main_arg0))
/-- What the first point leaves in the second carried buffer: the scaled output gradient. -/
abbrev grads (c : Dev nD) : Vec F S384x2048 .bf16 := dytAll (m ((c : Thread nD τ).loc main_arg2)) (table (m ((c : Thread nD τ).loc main_arg3)))

/-- The output block of point `t`. -/
abbrev blockAt (c : Dev nD) (t : Fin (cfgM m hO).N) : Vec F S1x256x384 .f32 :=
  bodyOut (codes m c) (grads m c) (table (m ((c : Thread nD τ).loc main_arg1))) (iblk m hO c 4 t) (iblk m hO c 5 t)
    ((m ((c : Thread nD τ).loc main_arg6) : IVec S27 32) (ix1 (offset m hO t)))

/-- Equal operands give equal output blocks. -/
theorem bodyOut_congr {xt xt' : Vec F S64x2048 .i32} {g g' : Vec F S384x2048 .bf16} {s s' : Vec F S16x128 .f32} {n n' : BitVec 32}
    (x4 x5 : Vec F S1x1x2048 .i32) (h1 : xt = xt') (h2 : g = g') (h3 : s = s') (h4 : n = n') :
    bodyOut xt g s x4 x5 n = bodyOut xt' g' s' x4 x5 n' := by
  rw [h1, h2, h3, h4]

/-- The first point fills the carried buffers and leaves its output block. -/
theorem outs_first (c : Dev nD) (t : Fin (cfgM m hO).N) (h : t.val % 27 = 0) :
    outsAt0 m hO c t.val t.isLt = (blockAt m hO c t, codes m c, grads m c) := by
  have e0 := congrArg (xtAll (F := F)) (iblk_0 m hO c t)
  have e1 := congrArg₂ (dytAll (F := F)) (iblk_2 m hO c t) (iblk_3 m hO c t)
  refine (outsAt0_A m hO c t h).trans (congrArg₂ Prod.mk ?_ (congrArg₂ Prod.mk ?_ ?_))
  · refine (out_A ..).trans ?_
    exact (bodyOut_congr _ _ e0 e1 (iblk_1 m hO c t) (count_eq m hO c t))
  · exact (sout_A_0 ..).trans e0
  · exact (sout_A_1 ..).trans e1

/-- Any other point keeps the carried buffers and leaves its output block. -/
theorem outs_next (c : Dev nD) (t : Fin (cfgM m hO).N) (h : ¬ t.val % 27 = 0)
    (h0 : (outsAt0 m hO c (t.val - 1) (by omega)).2.1 = codes m c) (h1 : (outsAt0 m hO c (t.val - 1) (by omega)).2.2 = grads m c) :
    outsAt0 m hO c t.val t.isLt = (blockAt m hO c t, codes m c, grads m c) := by
  refine (outsAt0_B m hO c t h).trans (congrArg₂ Prod.mk ?_ (congrArg₂ Prod.mk h0 h1))
  exact (out_B ..).trans (bodyOut_congr _ _ h0 h1 (iblk_1 m hO c t) (count_eq m hO c t))

/-- Every point leaves its own output block, and the carried buffers as the first point filled them. -/
theorem outs_eq (c : Dev nD) : ∀ (n : ℕ) (hn : n < (cfgM m hO).N),
    outsAt0 m hO c n hn = (blockAt m hO c ⟨n, hn⟩, codes m c, grads m c)
  | 0, hn => outs_first m hO c ⟨0, hn⟩ rfl
  | n + 1, hn => by
    have h : ¬ (n + 1) % 27 = 0 := by
      have : n + 1 < 27 := Nat.lt_of_lt_of_eq hn N_0
      omega
    have e := outs_eq c n (Nat.lt_of_succ_lt hn)
    exact outs_next m hO c ⟨n + 1, hn⟩ h (congrArg (fun q => q.2.1) e) (congrArg (fun q => q.2.2) e)

/-- An offset as a grid point. -/
abbrev point (k : Fin 27) : Fin (cfgM m hO).N := ⟨k.val, k.isLt.trans_eq N_0.symm⟩

/-- The result array: block `k` is the output block of point `k`. -/
def result (c : Dev nD) : Vec F S27x256x384 .f32 := fun y => blockAt m hO c (point m hO (y 0)) (ix3 0 (y 1) (y 2))

/-- The result array at an entry of block `t`. -/
theorem result_block (c : Dev nD) (t : Fin (cfgM m hO).N) (y : S1x256x384.Idx) (z : S27x256x384.Idx)
    (h0 : (z 0).val = t.val) (h1 : (z 1).val = (y 1).val) (h2 : (z 2).val = (y 2).val) :
    blockAt m hO c t y = result m hO c z := by
  have et : point m hO (z 0) = t := Fin.ext h0
  have ey : ix3 0 (z 1) (z 2) = y := by
    funext a
    match a with
    | ⟨0, _⟩ => exact (Subsingleton.elim (α := Fin 1) _ _)
    | ⟨1, _⟩ => exact Fin.ext h1
    | ⟨2, _⟩ => exact Fin.ext h2
  exact (congrArg₂ (blockAt m hO c) et ey).symm

/-- Where entry `y` of block `t` lies in the array. -/
def place (t : Fin (cfgM m hO).N) (y : S1x256x384.Idx) : S27x256x384.Idx := (((cfgM m hO).win 6).blk t).view.emb y

/-- It lies in row `t`. -/
theorem place_eq (t : Fin (cfgM m hO).N) (y : S1x256x384.Idx) :
    (place m hO t y 0).val = t.val ∧ (place m hO t y 1).val = (y 1).val ∧ (place m hO t y 2).val = (y 2).val := by
  refine ⟨?_, ?_, ?_⟩ <;> (unfold place; blk_simp)
  · exact index_6 m hO t 0
  · exact (congrArg (· * 256 + (y 1).val) (index_6 m hO t 1)).trans (Nat.zero_add _)
  · exact (congrArg (· * 384 + (y 2).val) (index_6 m hO t 2)).trans (Nat.zero_add _)

/-- Every entry of the array lies in the block of its offset. -/
theorem place_point (z : S27x256x384.Idx) : place m hO (point m hO (z 0)) (ix3 0 (z 1) (z 2)) = z := by
  obtain ⟨e0, e1, e2⟩ := place_eq m hO (point m hO (z 0)) (ix3 0 (z 1) (z 2))
  funext a
  match a with
  | ⟨0, _⟩ => exact Fin.ext e0
  | ⟨1, _⟩ => exact Fin.ext e1
  | ⟨2, _⟩ => exact Fin.ext e2

/-- After the run the result array is that. -/
theorem final (c : Dev nD) : (dats m hO 0 c).arrAt 6 (cfgM m hO).N = result m hO c := by
  refine (dats m hO 0 c).arrAt_eq_of_emb 6 (result m hO c) (fun t hf y => ?_) fun i => ⟨point m hO (i (0 : Fin 3)), flush0_6 _ _, ?_⟩
  · obtain ⟨e0, e1, e2⟩ := place_eq m hO t y
    blk_simp
    rw [after0_6, outs_eq]
    exact result_block m hO c t y (place m hO t y) e0 e1 e2
  · exact Eq.mp (congrArg (fun z : S27x256x384.Idx => z ∈ (((cfgM m hO).win 6).blk (point m hO (i (0 : Fin 3)))).view.set) (place_point m hO i))
      (View.emb_mem_set (((cfgM m hO).win 6).blk (point m hO (i (0 : Fin 3)))).view (ix3 0 (i (1 : Fin 3)) (i (2 : Fin 3)) : S1x256x384.Idx))

end Cert.Dw
-- ==== Proof.Entry.lean ====
/-
  An entry of the weight gradient, and the kernel's result array at it.
-/
module

public import proofs.«01_k».proof.Proof.KernelArray

@[expose] public section

set_option maxRecDepth 16384

noncomputable section

namespace Cert.Dw

open Idealize.ShloMosaic Idealize.ShloMosaic.TcCoe Cert.KernelIdeal Cert.KernelIdeal.Gen

/-- Entry `(k, i, o)` of the weight gradient: over the pairs of offset `k` that count, the scaled `x` of the input voxel
    times the scaled output gradient of the output voxel. -/
def gradEntry (x : IVec S2048x256 8) (sx : Vec Ideal S2048 .f32) (d : Vec Ideal S2048x384 .fp8e5m2) (sd : Vec Ideal S2048 .f32)
    (a b : IVec S27x2048 32) (n : IVec S27 32) (k : Fin 27) (i : Fin 256) (o : Fin 384) : EReal :=
  ∑ p : Fin 2048, if Valid (n (ix1 k)) p then
    (Ideal.ofBits .fp8e4m3 (x (ix2 (vox (a (ix2 k p))) i)) * (sx (ix1 (vox (a (ix2 k p)))) : EReal))
      * ((d (ix2 (vox (b (ix2 k p))) o) : EReal) * (sd (ix1 (vox (b (ix2 k p)))) : EReal))
    else 0

/-- A voxel's scale in the kernel's layout of the scales. -/
theorem table_apply (s : Vec Ideal S2048 .f32) (v : Fin 2048) : table s (ix2 (voxRow v) (voxLane v)) = s (ix1 v) := by
  unfold table
  pointwise
  refine congrArg (fun u => s (ix1 u)) (Fin.ext ?_)
  show (voxRow v).val * 128 + (voxLane v).val = v.val
  unfold voxRow voxLane
  show v.val / 128 * 128 + v.val % 128 = v.val
  omega

/-- A pair's term, with the scales in their own order. -/
theorem pairTerm_eq (x : IVec S2048x256 8) (sx : Vec Ideal S2048 .f32) (d : Vec Ideal S2048x384 .fp8e5m2) (sd : Vec Ideal S2048 .f32)
    (a b : Fin 2048 → BitVec 32) (i : Fin 256) (o : Fin 384) (p : Fin 2048) :
    pairTerm x (table sx) d (table sd) a b i o p
      = (Ideal.ofBits .fp8e4m3 (x (ix2 (vox (a p)) i)) * (sx (ix1 (vox (a p))) : EReal))
        * ((d (ix2 (vox (b p)) o) : EReal) * (sd (ix1 (vox (b p))) : EReal)) := by
  unfold pairTerm
  rw [table_apply, table_apply, mul_assoc, mul_comm]
  exact congrArg (fun u : EReal => u * _) (mul_comm _ _)

variable (m : (ℓ : Loc nD τ sig) → Buf (Elt Ideal) ℓ) (hO : Ok m)

/-- The kernel's result array at an entry. -/
theorem result_eq [Cert.Pre_pairs_ok.Facts] (c : Dev nD)
    (h : Cert.Pre_pairs_ok.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1)
    (k : Fin 27) (i : Fin 256) (o : Fin 384) :
    result m hO c (ix3 k i o)
      = gradEntry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) k i o := by
  have H := pairsOk_of_pre _ _ _ _ _ _ _ h k
  have e : result m hO c (ix3 k i o) = _ := congrFun (bodyOut_congr (iblk m hO c 4 (point m hO k)) (iblk m hO c 5 (point m hO k))
    (xtAll_eq (m ((c : Thread nD τ).loc main_arg0)))
    (dytAll_eq (m ((c : Thread nD τ).loc main_arg2)) (table (m ((c : Thread nD τ).loc main_arg3)))) rfl rfl) (ix3 0 i o)
  refine e.trans ((bodyOut_eq _ _ _ _ _ _ _ H (fun p => iblk_4 m hO c (point m hO k) p) (fun p => iblk_5 m hO c (point m hO k) p) i o).trans ?_)
  unfold gradEntry
  refine Finset.sum_congr rfl fun p _ => ?_
  by_cases hp : Valid ((m ((c : Thread nD τ).loc main_arg6) : IVec S27 32) (ix1 k)) p
  · refine (if_pos hp).trans ((pairTerm_eq ..).trans (if_pos hp).symm)
  · exact (if_neg hp).trans (if_neg hp).symm

end Cert.Dw
-- ==== Proof.Reference.lean ====
/-
  The reference's result array: the two dequantised operands, then gathers, the mask and the contraction.
-/
module

public import proofs.«01_k».proof.Proof.Gen.ReferenceIdeal.Frame
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.DwRef

open Idealize.ShloMosaic Idealize.ShloMosaic.TcCoe Cert.ReferenceIdeal Cert.ReferenceIdeal.Gen

variable {F : FTy → Type} [FloatOps F]
variable (m : (ℓ : Loc nD τ sig) → Buf (Elt F) ℓ)

/-- The scales as a column. -/
def column (s : Vec F S2048 .f32) : Vec F S2048x1 .f32 := broadcastInDim S2048x1 ![0] bcast_S2048_S2048x1_0 s

theorem V_main_v0 (c : Dev nD) : (V m c main_v0 : Vec F S2048x1 .f32) = column (m ((c : Thread nD τ).loc main_arg1)) := by
  entry_read
  rfl
theorem V_main_v1 (c : Dev nD) : (V m c main_v1 : Vec F S2048x1 .f32) = column (m ((c : Thread nD τ).loc main_arg3)) := by
  entry_read
  rfl

/-- The call's one grid point stages whole arrays: each block starts at 0. -/
theorem index_zero : ∀ a : Fin 2, win0_0.index t0_0 a = 0 ∧ win0_1.index t0_0 a = 0 ∧ win0_2.index t0_0 a = 0
    ∧ win0_3.index t0_0 a = 0 ∧ win0_4.index t0_0 a = 0 ∧ win0_5.index t0_0 a = 0 := by
  decide +kernel

theorem iblk_0 (c : Dev nD) : (iblk m c 0 t0_0 : Vec F S2048x256 .i8) = m ((c : Thread nD τ).loc main_arg0) := by
  refine Eq.trans ?_ (V_main_arg0 m c)
  funext y
  blk_ext [iblk] <;> simp only [(index_zero _).1, Nat.zero_mul, Nat.zero_add]

theorem iblk_1 (c : Dev nD) : (iblk m c 1 t0_0 : Vec F S2048x1 .f32) = column (m ((c : Thread nD τ).loc main_arg1)) := by
  refine Eq.trans ?_ (V_main_v0 m c)
  funext y
  blk_ext [iblk] <;> simp only [(index_zero _).2.1, Nat.zero_mul, Nat.zero_add]

theorem iblk_2 (c : Dev nD) : (iblk m c 2 t0_0 : Vec F S2048x384 .fp8e5m2) = m ((c : Thread nD τ).loc main_arg2) := by
  refine Eq.trans ?_ (V_main_arg2 m c)
  funext y
  blk_ext [iblk] <;> simp only [(index_zero _).2.2.1, Nat.zero_mul, Nat.zero_add]

theorem iblk_3 (c : Dev nD) : (iblk m c 3 t0_0 : Vec F S2048x1 .f32) = column (m ((c : Thread nD τ).loc main_arg3)) := by
  refine Eq.trans ?_ (V_main_v1 m c)
  funext y
  blk_ext [iblk] <;> simp only [(index_zero _).2.2.2.1, Nat.zero_mul, Nat.zero_add]

/-- The scaled `x`: what the call leaves in its first result. -/
def scaledX (c : Dev nD) : FVec F S2048x256 .bf16 := k0_pay1 (F := F) (m ((c : Thread nD τ).loc main_arg0)) (column (m ((c : Thread nD τ).loc main_arg1)))

/-- The scaled output gradient: what the call leaves in its second result. -/
def scaledDy (c : Dev nD) : FVec F S2048x384 .bf16 := k0_pay2 (F := F) (m ((c : Thread nD τ).loc main_arg2)) (column (m ((c : Thread nD τ).loc main_arg3)))

theorem final_x (c : Dev nD) : (dats m 0 c).arrAt 4 cfg0.N = scaledX m c := by
  refine (dats m 0 c).arrAt_eq_of_covers 4 _ (by decide +kernel) fun t hf y => ?_
  obtain rfl := fin_N0 t
  blk_simp
  rw [after0_4]
  frame_out
  refine (congrFun (congrArg₂ (k0_pay1 (F := F)) (iblk_0 m c) (iblk_1 m c)) _).trans (congrArg (scaledX m c) ?_)
  blk_ext <;> simp only [(index_zero _).2.2.2.2.1, Nat.zero_mul, Nat.zero_add]

theorem final_dy (c : Dev nD) : (dats m 0 c).arrAt 5 cfg0.N = scaledDy m c := by
  refine (dats m 0 c).arrAt_eq_of_covers 5 _ (by decide +kernel) fun t hf y => ?_
  obtain rfl := fin_N0 t
  blk_simp
  rw [after0_5]
  frame_out
  refine (congrFun (congrArg₂ (k0_pay2 (F := F)) (iblk_2 m c) (iblk_3 m c)) _).trans (congrArg (scaledDy m c) ?_)
  blk_ext <;> simp only [(index_zero _).2.2.2.2.2, Nat.zero_mul, Nat.zero_add]

/-! ## The host lines after the call -/

/-- A list of rows as start indices of a gather: a negative row counts from the end. -/
def rows (a : IVec S27x2048 32) : IVec S27x2048x1 32 :=
  broadcastInDim S27x2048x1 ![0, 1] bcast_S27x2048_S27x2048x1_0_1
    (select (cmpi .slt a (broadcastInDim S27x2048 ![] bcast_S_S27x2048 (constantI S_ 32 0#32)))
      (addi a (broadcastInDim S27x2048 ![] bcast_S_S27x2048 (constantI S_ 32 2048#32))) a)

/-- Which pairs count. -/
def counted (n : IVec S27 32) : IVec S27x2048x1 1 :=
  cmpi .slt
    (broadcastInDim S27x2048x1 ![0, 1, 2] bcast_S1x2048x1_S27x2048x1_0_1_2
      (broadcastInDim S1x2048x1 ![1] bcast_S2048_S1x2048x1_1 (iotaInDim S2048 32 0)))
    (broadcastInDim S27x2048x1 ![0, 1, 2] bcast_S27x1x1_S27x2048x1_0_1_2 (broadcastInDim S27x1x1 ![0] bcast_S27_S27x1x1_0 n))

/-- The rows of the pairs' input voxels. -/
def gatherX (x : FVec F S2048x256 .bf16) (a : IVec S27x2048 32) : FVec F S27x2048x256 .bf16 :=
  Host.gather gather_S2048x256_S27x2048x1_S27x2048x256_2_0_n_n_0_2_1256 x (rows a)

/-- The rows of the pairs' output voxels, 0 for a pair that does not count. -/
def gatherDy (d : FVec F S2048x384 .bf16) (b : IVec S27x2048 32) (n : IVec S27 32) : FVec F S27x2048x384 .bf16 :=
  select (broadcastInDim S27x2048x384 ![0, 1, 2] bcast_S27x2048x1_S27x2048x384_0_1_2 (counted n))
    (Host.gather gather_S2048x384_S27x2048x1_S27x2048x384_2_0_n_n_0_2_1384 d (rows b))
    (broadcastInDim S27x2048x384 ![] bcast_S_S27x2048x384 (constant S_ .bf16 0x0000#16))

/-- The contraction over the pairs. -/
def contract (x : FVec F S2048x256 .bf16) (d : FVec F S2048x384 .bf16) (a b : IVec S27x2048 32) (n : IVec S27 32) : FVec F S27x256x384 .f32 :=
  Host.dotGeneral dot_S27x2048x256_S27x2048x384_S27x256x384_1_1_2_2_0_0 none (gatherX x a) (gatherDy d b n)

/-- Equal operands give equal contractions. -/
theorem contract_congr {x x' : FVec F S2048x256 .bf16} {d d' : FVec F S2048x384 .bf16} {a a' b b' : IVec S27x2048 32} {n n' : IVec S27 32}
    (h1 : x = x') (h2 : d = d') (h3 : a = a') (h4 : b = b') (h5 : n = n') : contract x d a b n = contract x' d' a' b' n' := by
  rw [h1, h2, h3, h4, h5]

/-- The result array. -/
def result (c : Dev nD) : FVec F S27x256x384 .f32 :=
  contract (scaledX m c) (scaledDy m c) (m ((c : Thread nD τ).loc main_arg4)) (m ((c : Thread nD τ).loc main_arg5))
    (m ((c : Thread nD τ).loc main_arg6))

/-- The buffers after the call. -/
def afterCall (c : Dev nD) (b : Ref sig .tc) : Buf (Elt F) ((c : Thread nD τ).loc b) :=
  Pipeline.withArrays spec0 c (V0 m c) (fun w => (dats m 0 c).arrAt w cfg0.N) (Proc.devRef .tc b)

/-- The call keeps the buffers it does not touch. -/
theorem call_keeps (c : Dev nD) (b : Ref sig .tc) (h : ∀ w, Pipeline.arrRef spec0 w ≠ b) : afterCall m c b = V m c b :=
  Pipeline.withArrays_of_ne _ c (V0 m c) _ b h

theorem arrRef_inj : Function.Injective (Pipeline.arrRef spec0) := by decide

/-- The call leaves its results in its result buffers. -/
theorem call_writes (c : Dev nD) (w : Fin 6) : afterCall m c (Pipeline.arrRef spec0 w) = (dats m 0 c).arrAt w cfg0.N :=
  Pipeline.withArrays_arr spec0 arrRef_inj c (V0 m c) _ w

theorem call_x (c : Dev nD) : afterCall m c main_v2_0 = scaledX m c := (call_writes m c 4).trans (final_x m c)

theorem call_dy (c : Dev nD) : afterCall m c main_v2_1 = scaledDy m c := (call_writes m c 5).trans (final_dy m c)

/-- The contraction of what the call leaves. -/
def contractAfter (c : Dev nD) : FVec F S27x256x384 .f32 :=
  contract (afterCall m c main_v2_0) (afterCall m c main_v2_1) (afterCall m c main_arg4) (afterCall m c main_arg5) (afterCall m c main_arg6)

theorem contractAfter_eq (c : Dev nD) : contractAfter m c = result m c :=
  contract_congr (call_x m c) (call_dy m c)
    ((call_keeps m c main_arg4 (by decide)).trans (V_main_arg4 m c)) ((call_keeps m c main_arg5 (by decide)).trans (V_main_arg5 m c))
    ((call_keeps m c main_arg6 (by decide)).trans (V_main_arg6 m c))

/-- What the host lines leave in the result buffer. -/
theorem tail (c : Dev nD) :
    Pipeline.afterTail₀ cfgs (dats m) 0 (V0 m) [hostOps1, hostOps1_1, hostOps1_2] c main_v24 = result m c := by
  rw [← contractAfter_eq]
  unfold Pipeline.afterTail₀
  simp only [List.flatten_cons, List.flatten_nil, List.append_nil, List.cons_append, List.nil_append]
  after_results
  rfl

end Cert.DwRef
-- ==== Proof.ReferenceEntry.lean ====
/-
  The reference's result array at an entry.
-/
module

public import proofs.«01_k».proof.Proof.Reference
public import proofs.«01_k».proof.Proof.Entry

@[expose] public section

set_option maxRecDepth 16384

noncomputable section

namespace Cert.DwRef

open Idealize.ShloMosaic Idealize.ShloMosaic.TcCoe Cert.ReferenceIdeal Cert.ReferenceIdeal.Gen

/-! ## A gather of whole rows -/

section Rows
variable {α : Type}

/-- The dimension numbers of a gather of rows: operand `[N, C]`, one row number per result row, result `[R, P, C]`. -/
abbrev rowDims (N C R P : Nat) (wf : GatherDims.WF ⟨2, ![N, C]⟩ ⟨3, ![R, P, 1]⟩ ⟨3, ![R, P, C]⟩ [2] [0] [] [0] [] 2 ![1, C]) :
    GatherDims ⟨2, ![N, C]⟩ ⟨3, ![R, P, 1]⟩ ⟨3, ![R, P, C]⟩ where
  offsetDims := [2]
  collapsedSliceDims := [0]
  operandBatchingDims := []
  startIndicesBatchingDims := []
  startIndexMap := [0]
  indexVectorDim := 2
  sliceSizes := ![1, C]
  wf := wf

/-- Entry `(k, p, j)` is entry `j` of the row that `idx` names at `(k, p)`, read signed and clamped into the operand. -/
theorem gather_row {N C R P w : Nat} (hN : 0 < N)
    (wf : GatherDims.WF ⟨2, ![N, C]⟩ ⟨3, ![R, P, 1]⟩ ⟨3, ![R, P, C]⟩ [2] [0] [] [0] [] 2 ![1, C])
    (x : (⟨2, ![N, C]⟩ : Shape).Idx → α) (idx : IVec ⟨3, ![R, P, 1]⟩ w) (k : Fin R) (p : Fin P) (j : Fin C) :
    Host.gather (rowDims N C R P wf) x idx (ix3 k p j)
      = x (ix2 ⟨min (idx (ix3 k p 0)).toInt.toNat (N - 1), by omega⟩ j) := by
  unfold Host.gather
  congr 1
  funext a
  refine Fin.ext ?_
  show (rowDims N C R P wf).start (ix3 k p j) idx a + (rowDims N C R P wf).batchCoord (ix3 k p j) a
      + (rowDims N C R P wf).offCoord (ix3 k p j) a = _
  have h01 : a = 0 ∨ a = 1 := by
    match a with
    | ⟨0, _⟩ => exact Or.inl rfl
    | ⟨1, _⟩ => exact Or.inr rfl
  have one_ne : ¬ (1 : Fin 2) = 0 := by decide
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R P wf).startIndexMap from List.mem_singleton.mpr rfl)]
    have hsi : (rowDims N C R P wf).siIdx (ix3 k p j) ⟨List.idxOf (0 : Fin 2) (rowDims N C R P wf).startIndexMap,
        List.idxOf_lt_length_iff.2 (List.mem_singleton.mpr rfl)⟩ = ix3 k p 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    have hs : (rowDims N C R P wf).start (ix3 k p j) idx 1 = 0 := by
      unfold GatherDims.start
      rw [dif_neg (fun h => one_ne (List.mem_singleton.mp h))]
    rw [hs]
    simp only [Nat.zero_add, Nat.add_zero]
    unfold GatherDims.offCoord
    rw [dif_pos ((GatherDims.mem_sKept _ _).mpr ⟨fun h => one_ne (List.mem_singleton.mp h), List.not_mem_nil⟩)]
    rfl

end Rows

/-- A row number in range is the start index itself. -/
theorem rows_apply (a : IVec S27x2048 32) (k : Fin 27) (p : Fin 2048) (h : (a (ix2 k p)).toNat < 2048) :
    rows a (ix3 k p 0) = a (ix2 k p) := by
  have hn : ¬ IntOp.cmpi .slt (a (ix2 k p)) 0#32 = 1#1 := by
    rw [IntOp.cmpi_slt, BitVec.toInt_eq_toNat_of_lt (by omega)]
    exact Nat.not_lt_zero _ ∘ Int.ofNat_lt.mp
  unfold rows
  pointwise
  exact if_neg hn

/-- Which pairs count, at a pair. -/
theorem counted_apply (n : IVec S27 32) (k : Fin 27) (p : Fin 2048) : counted n (ix3 k p 0) = 1#1 ↔ Cert.Dw.Valid (n (ix1 k)) p := by
  unfold counted
  pointwise
  exact IntOp.cmpi_slt

/-- The row a gather reads for a row number in range. -/
theorem row_eq (a : IVec S27x2048 32) (k : Fin 27) (p : Fin 2048) (h : (a (ix2 k p)).toNat < 2048)
    (hlt : min (rows a (ix3 k p 0)).toInt.toNat (2048 - 1) < 2048) :
    (⟨min (rows a (ix3 k p 0)).toInt.toNat (2048 - 1), hlt⟩ : Fin 2048) = Cert.Dw.vox (a (ix2 k p)) := by
  refine Fin.ext ?_
  show min (rows a (ix3 k p 0)).toInt.toNat (2048 - 1) = (a (ix2 k p)).toNat % 2048
  rw [rows_apply a k p h, BitVec.toInt_eq_toNat_of_lt (by omega), Int.toNat_natCast]
  omega

/-- The gathered `x` of a pair whose input voxel is in range. -/
theorem gatherX_apply (x : FVec Ideal S2048x256 .bf16) (a : IVec S27x2048 32) (k : Fin 27) (p : Fin 2048) (i : Fin 256)
    (h : (a (ix2 k p)).toNat < 2048) : gatherX x a (ix3 k p i) = x (ix2 (Cert.Dw.vox (a (ix2 k p))) i) :=
  (gather_row (by omega) _ x (rows a) k p i).trans (congrArg (fun v => x (ix2 v i)) (row_eq a k p h _))

/-- The gathered output gradient of a pair that counts and whose output voxel is in range. -/
theorem gatherDy_apply (d : FVec Ideal S2048x384 .bf16) (b : IVec S27x2048 32) (n : IVec S27 32) (k : Fin 27) (p : Fin 2048) (o : Fin 384)
    (hp : Cert.Dw.Valid (n (ix1 k)) p) (h : (b (ix2 k p)).toNat < 2048) :
    gatherDy d b n (ix3 k p o) = d (ix2 (Cert.Dw.vox (b (ix2 k p))) o) := by
  unfold gatherDy
  pointwise
  refine (if_pos ((counted_apply n k p).mpr hp)).trans ?_
  exact (gather_row (by omega) _ d (rows b) k p o).trans (congrArg (fun v => d (ix2 v o)) (row_eq b k p h _))

/-- A pair that does not count has gradient 0. -/
theorem gatherDy_zero (d : FVec Ideal S2048x384 .bf16) (b : IVec S27x2048 32) (n : IVec S27 32) (k : Fin 27) (p : Fin 2048) (o : Fin 384)
    (hp : ¬ Cert.Dw.Valid (n (ix1 k)) p) : (gatherDy d b n (ix3 k p o) : EReal) = 0 := by
  unfold gatherDy
  pointwise
  refine (if_neg (fun h => hp ((counted_apply n k p).mp h))).trans ?_
  rfl

theorem contract_apply (x : FVec Ideal S2048x256 .bf16) (d : FVec Ideal S2048x384 .bf16) (a b : IVec S27x2048 32) (n : IVec S27 32) (k : Fin 27) (i : Fin 256) (o : Fin 384) :
    contract x d a b n (ix3 k i o) = ∑ p : Fin 2048, (gatherX x a (ix3 k p i) : EReal) * (gatherDy d b n (ix3 k p o) : EReal) := by
  unfold contract
  pointwise

theorem scaledX_apply (x : IVec S2048x256 8) (s : Vec Ideal S2048 .f32) (r : Fin 2048) (i : Fin 256) :
    (k0_pay1 (F := Ideal) x (column s) (ix2 r i) : EReal) = Ideal.ofBits .fp8e4m3 (x (ix2 r i)) * (s (ix1 r) : EReal) := by
  unfold k0_pay1 column
  dsimp only
  pointwise

theorem scaledDy_apply (d : Vec Ideal S2048x384 .fp8e5m2) (s : Vec Ideal S2048 .f32) (r : Fin 2048) (o : Fin 384) :
    (k0_pay2 (F := Ideal) d (column s) (ix2 r o) : EReal) = (d (ix2 r o) : EReal) * (s (ix1 r) : EReal) := by
  unfold k0_pay2 column
  dsimp only
  pointwise

variable (m : (ℓ : Loc nD τ sig) → Buf (Elt Ideal) ℓ)

/-- The reference's result array at an entry. -/
theorem result_eq (c : Dev nD)
    (H : ∀ k : Fin 27, Cert.Dw.PairsOk (fun p => (m ((c : Thread nD τ).loc main_arg4) : IVec S27x2048 32) (ix2 k p))
      (fun p => (m ((c : Thread nD τ).loc main_arg5) : IVec S27x2048 32) (ix2 k p)) ((m ((c : Thread nD τ).loc main_arg6) : IVec S27 32) (ix1 k)))
    (k : Fin 27) (i : Fin 256) (o : Fin 384) :
    result m c (ix3 k i o)
      = Cert.Dw.gradEntry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) k i o := by
  refine (contract_apply _ _ _ _ _ k i o).trans (Finset.sum_congr rfl fun p _ => ?_)
  by_cases hp : Cert.Dw.Valid ((m ((c : Thread nD τ).loc main_arg6) : IVec S27 32) (ix1 k)) p
  · rw [if_pos hp, gatherX_apply _ _ k p i ((H k).inp_lt p hp), gatherDy_apply _ _ _ k p o hp ((H k).out_lt p hp)]
    exact congrArg₂ (fun u v : EReal => u * v) (scaledX_apply ..) (scaledDy_apply ..)
  · rw [if_neg hp, gatherDy_zero _ _ _ k p o hp, mul_zero]

end Cert.DwRef
-- ==== Proof.lean ====
module

public import proofs.«01_k».proof.Defs
public import proofs.«01_k».proof.Proof.Gen.Kernel
public import proofs.«01_k».proof.Proof.Gen.Kernel.Frame
public import proofs.«01_k».proof.Proof.Gen.Pre_pairs_ok
public import proofs.«01_k».proof.Proof.Entry
public import proofs.«01_k».proof.Proof.ReferenceEntry
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- On equal arguments whose pairs meet the precondition, the two programs' result arrays are one array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_pairs_ok m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.DwRef.result m' c = Cert.Dw.result m trivial c := by
  obtain ⟨h0, h1, h2, h3, h4, h5, h6⟩ := hagree
  funext y
  rw [ValueIdx.eq_ix3 (n0 := 27) (n1 := 256) (n2 := 384) y]
  refine (Cert.DwRef.result_eq m' c (fun k => ?_) _ _ _).trans
    (Eq.trans ?_ (Cert.Dw.result_eq m trivial c (hpre c) _ _ _).symm)
  · rw [h4, h5, h6]
    exact Cert.Dw.pairsOk_of_pre _ _ _ _ _ _ _ (hpre c) k
  · rw [h0, h1, h2, h3, h4, h5, h6]

/-- Over the extended reals both programs end with the array of `Dw.gradEntry`, given pairs that meet the precondition. -/
theorem algebraic : Cert.algebraic_KernelIdeal_ReferenceIdeal_pre_pairs_ok := by
  intro m g m' g' hpre hagree
  refine ⟨fun c => Cert.Dw.result m trivial c, ?_, ?_⟩
  · refine θ_run_mono (θ_run_and (Cert.KernelIdeal.Gen.run_main m g trivial) (Cert.KernelIdeal.Gen.unchanged m g trivial)) ?_
    exact fun r hr c => ⟨((hr.1 c).1 6).trans (Cert.Dw.final m trivial c), hr.2 c⟩
  · refine θ_run_mono (θ_run_and (?_ : θ_run _ _ _ fun r => ∀ c : Dev Cert.ReferenceIdeal.nD,
      r.2.mem ((c.tc : Thread Cert.ReferenceIdeal.nD Cert.ReferenceIdeal.τ).loc Cert.ReferenceIdeal.main_v24) = Cert.DwRef.result m' c)
      (Cert.ReferenceIdeal.Gen.unchanged m' g')) ?_
    · run_from Cert.ReferenceIdeal.Gen.run_main m' g'
      exact Cert.DwRef.tail m' c
    · exact fun r hr c => ⟨(hr.1 c).trans (same m m' hpre c (hagree c)), hr.2 c⟩

theorem claim : Cert.Claim := ⟨Cert.Kernel.Gen.facts, Cert.KernelIdeal.Gen.facts, Cert.ReferenceIdeal.Gen.facts, Cert.Pre_pairs_ok.Gen.facts,
  fun m ρ _ => Cert.Kernel.Gen.frame m ρ trivial, fun m ρ _ => Cert.KernelIdeal.Gen.frame m ρ trivial,
  fun m ρ _ => Cert.KernelIdeal.Gen.frame m ρ trivial, fun m ρ _ => Cert.ReferenceIdeal.Gen.frame m ρ,
  fun m ρ _ => Cert.ReferenceIdeal.Gen.frame m ρ, trivial, algebraic⟩

end Cert.Proof

end
